-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x2560 : Shape := ⟨3, ![6, 256, 2560]⟩
abbrev S2560 : Shape := ⟨1, ![2560]⟩
abbrev S40x40 : Shape := ⟨2, ![40, 40]⟩
abbrev S64x64 : Shape := ⟨2, ![64, 64]⟩
abbrev S_ : Shape := ⟨0, ![]⟩
abbrev S2560x3456 : Shape := ⟨2, ![2560, 3456]⟩
abbrev S6912 : Shape := ⟨1, ![6912]⟩
abbrev S1536x2560 : Shape := ⟨2, ![1536, 2560]⟩
abbrev S64x1x1x64 : Shape := ⟨4, ![64, 1, 1, 64]⟩
abbrev S4x4 : Shape := ⟨2, ![4, 4]⟩
abbrev S1x4x4x1 : Shape := ⟨4, ![1, 4, 4, 1]⟩
abbrev S64x4x4x64 : Shape := ⟨4, ![64, 4, 4, 64]⟩
abbrev S256x256 : Shape := ⟨2, ![256, 256]⟩
abbrev S10x4x20x2 : Shape := ⟨4, ![10, 4, 20, 2]⟩
abbrev S20x2x10x4 : Shape := ⟨4, ![20, 2, 10, 4]⟩
abbrev S20x1x2x10x1x4 : Shape := ⟨6, ![20, 1, 2, 10, 1, 4]⟩
abbrev S1x4x1x1x4x1 : Shape := ⟨6, ![1, 4, 1, 1, 4, 1]⟩
abbrev S20x4x2x10x4x4 : Shape := ⟨6, ![20, 4, 2, 10, 4, 4]⟩
abbrev S160x160 : Shape := ⟨2, ![160, 160]⟩
abbrev S1x2560 : Shape := ⟨2, ![1, 2560]⟩
abbrev S1 : Shape := ⟨1, ![1]⟩
abbrev S6x1x256 : Shape := ⟨3, ![6, 1, 256]⟩
abbrev S1536x128 : Shape := ⟨2, ![1536, 128]⟩
abbrev S256x2560 : Shape := ⟨2, ![256, 2560]⟩
abbrev S1x1x256 : Shape := ⟨3, ![1, 1, 256]⟩
abbrev S256x128 : Shape := ⟨2, ![256, 128]⟩
abbrev S16x160x256 : Shape := ⟨3, ![16, 160, 256]⟩
abbrev S2x20x128x128 : Shape := ⟨4, ![2, 20, 128, 128]⟩
abbrev S1x256 : Shape := ⟨2, ![1, 256]⟩
abbrev S16x256 : Shape := ⟨2, ![16, 256]⟩
abbrev S1x16x256 : Shape := ⟨3, ![1, 16, 256]⟩
abbrev S8x256 : Shape := ⟨2, ![8, 256]⟩
abbrev S1x160x256 : Shape := ⟨3, ![1, 160, 256]⟩
abbrev S160x256 : Shape := ⟨2, ![160, 256]⟩
abbrev S8x128 : Shape := ⟨2, ![8, 128]⟩
abbrev S1x1x8x128 : Shape := ⟨4, ![1, 1, 8, 128]⟩
abbrev S256 : Shape := ⟨1, ![256]⟩
abbrev S1x128 : Shape := ⟨2, ![1, 128]⟩
abbrev S128x128 : Shape := ⟨2, ![128, 128]⟩
abbrev S1x1x64x128 : Shape := ⟨4, ![1, 1, 64, 128]⟩
abbrev S64x128 : Shape := ⟨2, ![64, 128]⟩
abbrev S1x6912 : Shape := ⟨2, ![1, 6912]⟩
abbrev S1536x6912 : Shape := ⟨2, ![1536, 6912]⟩
abbrev S2560x128 : Shape := ⟨2, ![2560, 128]⟩
abbrev S1536x256 : Shape := ⟨2, ![1536, 256]⟩
abbrev S2560x256 : Shape := ⟨2, ![2560, 256]⟩
abbrev S64x128x1 : Shape := ⟨3, ![64, 128, 1]⟩
abbrev S512x2560 : Shape := ⟨2, ![512, 2560]⟩
abbrev S512x256 : Shape := ⟨2, ![512, 256]⟩
abbrev S512x128 : Shape := ⟨2, ![512, 128]⟩
abbrev S6x256x6912 : Shape := ⟨3, ![6, 256, 6912]⟩
abbrev S6x256 : Shape := ⟨2, ![6, 256]⟩

abbrev nBuf : Space → Nat
  | .hbm => 48
  | .vmem => 24
  | .smem => 1
  | _ => 0

abbrev bufTy : (tb : Table) → Fin (tcTables nBuf tb) → BufTy
  | .hbm, ⟨0, _⟩ => ⟨S6x256x2560, .bf16⟩
  | .hbm, ⟨1, _⟩ => ⟨S2560, .f32⟩
  | .hbm, ⟨2, _⟩ => ⟨S40x40, .bf16⟩
  | .hbm, ⟨3, _⟩ => ⟨S64x64, .bf16⟩
  | .hbm, ⟨4, _⟩ => ⟨S_, .f32⟩
  | .hbm, ⟨5, _⟩ => ⟨S2560x3456, .i8⟩
  | .hbm, ⟨6, _⟩ => ⟨S6912, .f32⟩
  | .hbm, ⟨7, _⟩ => ⟨S1536x2560, .bf16⟩
  | .hbm, ⟨8, _⟩ => ⟨S64x64, .bf16⟩
  | .hbm, ⟨9, _⟩ => ⟨S64x1x1x64, .bf16⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .bf16⟩
  | .hbm, ⟨17, _⟩ => ⟨S1x4x4x1, .bf16⟩
  | .hbm, ⟨18, _⟩ => ⟨S64x4x4x64, .bf16⟩
  | .hbm, ⟨19, _⟩ => ⟨S64x4x4x64, .bf16⟩
  | .hbm, ⟨20, _⟩ => ⟨S64x4x4x64, .bf16⟩
  | .hbm, ⟨21, _⟩ => ⟨S256x256, .bf16⟩
  | .hbm, ⟨22, _⟩ => ⟨S10x4x20x2, .bf16⟩
  | .hbm, ⟨23, _⟩ => ⟨S20x2x10x4, .bf16⟩
  | .hbm, ⟨24, _⟩ => ⟨S20x1x2x10x1x4, .bf16⟩
  | .hbm, ⟨25, _⟩ => ⟨S4x4, .i32⟩
  | .hbm, ⟨26, _⟩ => ⟨S4x4, .i32⟩
  | .hbm, ⟨27, _⟩ => ⟨S_, .i32⟩
  | .hbm, ⟨28, _⟩ => ⟨S4x4, .i32⟩
  | .hbm, ⟨29, _⟩ => ⟨S4x4, .i32⟩
  | .hbm, ⟨30, _⟩ => ⟨S4x4, .i1⟩
  | .hbm, ⟨31, _⟩ => ⟨S4x4, .bf16⟩
  | .hbm, ⟨32, _⟩ => ⟨S1x4x1x1x4x1, .bf16⟩
  | .hbm, ⟨33, _⟩ => ⟨S20x4x2x10x4x4, .bf16⟩
  | .hbm, ⟨34, _⟩ => ⟨S20x4x2x10x4x4, .bf16⟩
  | .hbm, ⟨35, _⟩ => ⟨S20x4x2x10x4x4, .bf16⟩
  | .hbm, ⟨36, _⟩ => ⟨S160x160, .bf16⟩
  | .hbm, ⟨37, _⟩ => ⟨S1x2560, .f32⟩
  | .hbm, ⟨38, _⟩ => ⟨S1, .f32⟩
  | .hbm, ⟨39, _⟩ => ⟨S1536x2560, .i8⟩
  | .hbm, ⟨40, _⟩ => ⟨S1536x2560, .fp8e4m3⟩
  | .hbm, ⟨41, _⟩ => ⟨S6x1x256, .f32⟩
  | .hbm, ⟨42, _⟩ => ⟨S1536x128, .f32⟩
  | .hbm, ⟨43, _⟩ => ⟨S1x6912, .f32⟩
  | .hbm, ⟨44, _⟩ => ⟨S1536x6912, .bf16⟩
  | .hbm, ⟨45, _⟩ => ⟨S6x256x6912, .bf16⟩
  | .hbm, ⟨46, _⟩ => ⟨S6x256x2560, .i8⟩
  | .hbm, ⟨47, _⟩ => ⟨S6x256, .f32⟩
  | .local _ .vmem, ⟨0, _⟩ => ⟨S256x2560, .bf16⟩
  | .local _ .vmem, ⟨1, _⟩ => ⟨S256x2560, .bf16⟩
  | .local _ .vmem, ⟨2, _⟩ => ⟨S1x2560, .f32⟩
  | .local _ .vmem, ⟨3, _⟩ => ⟨S256x256, .bf16⟩
  | .local _ .vmem, ⟨4, _⟩ => ⟨S160x160, .bf16⟩
  | .local _ .vmem, ⟨5, _⟩ => ⟨S256x2560, .i8⟩
  | .local _ .vmem, ⟨6, _⟩ => ⟨S256x2560, .i8⟩
  | .local _ .vmem, ⟨7, _⟩ => ⟨S256x2560, .fp8e4m3⟩
  | .local _ .vmem, ⟨8, _⟩ => ⟨S256x2560, .fp8e4m3⟩
  | .local _ .vmem, ⟨9, _⟩ => ⟨S1x1x256, .f32⟩
  | .local _ .vmem, ⟨10, _⟩ => ⟨S1x1x256, .f32⟩
  | .local _ .vmem, ⟨11, _⟩ => ⟨S256x128, .f32⟩
  | .local _ .vmem, ⟨12, _⟩ => ⟨S256x128, .f32⟩
  | .local _ .vmem, ⟨13, _⟩ => ⟨S16x160x256, .bf16⟩
  | .local _ .vmem, ⟨14, _⟩ => ⟨S2x20x128x128, .f32⟩
  | .local _ .vmem, ⟨15, _⟩ => ⟨S1536x2560, .fp8e4m3⟩
  | .local _ .vmem, ⟨16, _⟩ => ⟨S1536x128, .f32⟩
  | .local _ .vmem, ⟨17, _⟩ => ⟨S2560x128, .i8⟩
  | .local _ .vmem, ⟨18, _⟩ => ⟨S2560x128, .i8⟩
  | .local _ .vmem, ⟨19, _⟩ => ⟨S1x256, .f32⟩
  | .local _ .vmem, ⟨20, _⟩ => ⟨S1x256, .f32⟩
  | .local _ .vmem, ⟨21, _⟩ => ⟨S1536x256, .bf16⟩
  | .local _ .vmem, ⟨22, _⟩ => ⟨S1536x256, .bf16⟩
  | .local _ .vmem, ⟨23, _⟩ => ⟨S2560x256, .fp8e4m3⟩
  | .local _ .smem, ⟨0, _⟩ => ⟨S1, .f32⟩
  | _, _ => ⟨S6x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_scratch0 : Ref sig .tc := ⟨.vmem, 23, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S160x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2560 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2560 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![27], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1536x2560 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1536x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2560x128 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1536x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S6x256x2560 : Shape := ⟨3, ![6, 256, 2560]⟩
abbrev S2560 : Shape := ⟨1, ![2560]⟩
abbrev S40x40 : Shape := ⟨2, ![40, 40]⟩
abbrev S64x64 : Shape := ⟨2, ![64, 64]⟩
abbrev S_ : Shape := ⟨0, ![]⟩
abbrev S2560x3456 : Shape := ⟨2, ![2560, 3456]⟩
abbrev S6912 : Shape := ⟨1, ![6912]⟩
abbrev S1x1x2560 : Shape := ⟨3, ![1, 1, 2560]⟩
abbrev S6x256x40x64 : Shape := ⟨4, ![6, 256, 40, 64]⟩
abbrev S6x256x64x40 : Shape := ⟨4, ![6, 256, 64, 40]⟩
abbrev S1536x2560 : Shape := ⟨2, ![1536, 2560]⟩
abbrev S2560x3456x1 : Shape := ⟨3, ![2560, 3456, 1]⟩
abbrev S2560x3456x2 : Shape := ⟨3, ![2560, 3456, 2]⟩
abbrev S2560x6912 : Shape := ⟨2, ![2560, 6912]⟩
abbrev S1x1 : Shape := ⟨2, ![1, 1]⟩
abbrev S1x6912 : Shape := ⟨2, ![1, 6912]⟩
abbrev S1536x6912 : Shape := ⟨2, ![1536, 6912]⟩
abbrev S1536x1 : Shape := ⟨2, ![1536, 1]⟩
abbrev S1536 : Shape := ⟨1, ![1536]⟩
abbrev S6x256x6912 : Shape := ⟨3, ![6, 256, 6912]⟩
abbrev S6x256 : Shape := ⟨2, ![6, 256]⟩

abbrev nBuf : Space → Nat
  | .hbm => 53
  | .vmem => 7
  | .smem => 0
  | _ => 0

abbrev bufTy : (tb : Table) → Fin (tcTables nBuf tb) → BufTy
  | .hbm, ⟨0, _⟩ => ⟨S6x256x2560, .bf16⟩
  | .hbm, ⟨1, _⟩ => ⟨S2560, .f32⟩
  | .hbm, ⟨2, _⟩ => ⟨S40x40, .bf16⟩
  | .hbm, ⟨3, _⟩ => ⟨S64x64, .bf16⟩
  | .hbm, ⟨4, _⟩ => ⟨S_, .f32⟩
  | .hbm, ⟨5, _⟩ => ⟨S2560x3456, .i8⟩
  | .hbm, ⟨6, _⟩ => ⟨S6912, .f32⟩
  | .hbm, ⟨7, _⟩ => ⟨S6x256x2560, .f32⟩
  | .hbm, ⟨8, _⟩ => ⟨S1x1x2560, .f32⟩
  | .hbm, ⟨9, _⟩ => ⟨S6x256x2560, .f32⟩
  | .hbm, ⟨10, _⟩ => ⟨S6x256x2560, .f32⟩
  | .hbm, ⟨11, _⟩ => ⟨S6x256x2560, .bf16⟩
  | .hbm, ⟨12, _⟩ => ⟨S6x256x40x64, .bf16⟩
  | .hbm, ⟨13, _⟩ => ⟨S6x256x40x64, .f32⟩
  | .hbm, ⟨14, _⟩ => ⟨S6x256x40x64, .bf16⟩
  | .hbm, ⟨15, _⟩ => ⟨S6x256x64x40, .f32⟩
  | .hbm, ⟨16, _⟩ => ⟨S6x256x40x64, .f32⟩
  | .hbm, ⟨17, _⟩ => ⟨S1536x2560, .f32⟩
  | .hbm, ⟨18, _⟩ => ⟨S2560x3456, .i32⟩
  | .hbm, ⟨19, _⟩ => ⟨S_, .i32⟩
  | .hbm, ⟨20, _⟩ => ⟨S2560x3456, .i32⟩
  | .hbm, ⟨21, _⟩ => ⟨S2560x3456, .i32⟩
  | .hbm, ⟨22, _⟩ => ⟨S_, .i32⟩
  | .hbm, ⟨23, _⟩ => ⟨S2560x3456, .i32⟩
  | .hbm, ⟨24, _⟩ => ⟨S2560x3456, .i1⟩
  | .hbm, ⟨25, _⟩ => ⟨S2560x3456, .i32⟩
  | .hbm, ⟨26, _⟩ => ⟨S_, .i32⟩
  | .hbm, ⟨27, _⟩ => ⟨S2560x3456, .i32⟩
  | .hbm, ⟨28, _⟩ => ⟨S2560x3456, .i32⟩
  | .hbm, ⟨29, _⟩ => ⟨S2560x3456, .i32⟩
  | .hbm, ⟨30, _⟩ => ⟨S_, .i32⟩
  | .hbm, ⟨31, _⟩ => ⟨S2560x3456, .i32⟩
  | .hbm, ⟨32, _⟩ => ⟨S2560x3456, .i32⟩
  | .hbm, ⟨33, _⟩ => ⟨S_, .i32⟩
  | .hbm, ⟨34, _⟩ => ⟨S2560x3456, .i32⟩
  | .hbm, ⟨35, _⟩ => ⟨S2560x3456, .i1⟩
  | .hbm, ⟨36, _⟩ => ⟨S2560x3456, .i32⟩
  | .hbm, ⟨37, _⟩ => ⟨S_, .i32⟩
  | .hbm, ⟨38, _⟩ => ⟨S2560x3456, .i32⟩
  | .hbm, ⟨39, _⟩ => ⟨S2560x3456, .i32⟩
  | .hbm, ⟨40, _⟩ => ⟨S2560x3456, .i32⟩
  | .hbm, ⟨41, _⟩ => ⟨S2560x3456x1, .i32⟩
  | .hbm, ⟨42, _⟩ => ⟨S2560x3456x1, .i32⟩
  | .hbm, ⟨43, _⟩ => ⟨S2560x3456x2, .i32⟩
  | .hbm, ⟨44, _⟩ => ⟨S2560x6912, .i32⟩
  | .hbm, ⟨45, _⟩ => ⟨S1x1, .f32⟩
  | .hbm, ⟨46, _⟩ => ⟨S1x6912, .f32⟩
  | .hbm, ⟨47, _⟩ => ⟨S1536x6912, .bf16⟩
  | .hbm, ⟨48, _⟩ => ⟨S1536x2560, .i8⟩
  | .hbm, ⟨49, _⟩ => ⟨S1536x1, .f32⟩
  | .hbm, ⟨50, _⟩ => ⟨S6x256x6912, .bf16⟩
  | .hbm, ⟨51, _⟩ => ⟨S6x256x2560, .i8⟩
  | .hbm, ⟨52, _⟩ => ⟨S6x256, .f32⟩
  | .local _ .vmem, ⟨0, _⟩ => ⟨S1536x2560, .f32⟩
  | .local _ .vmem, ⟨1, _⟩ => ⟨S1x1, .f32⟩
  | .local _ .vmem, ⟨2, _⟩ => ⟨S2560x6912, .i32⟩
  | .local _ .vmem, ⟨3, _⟩ => ⟨S1x6912, .f32⟩
  | .local _ .vmem, ⟨4, _⟩ => ⟨S1536x6912, .bf16⟩
  | .local _ .vmem, ⟨5, _⟩ => ⟨S1536x2560, .i8⟩
  | .local _ .vmem, ⟨6, _⟩ => ⟨S1536x1, .f32⟩
  | _, _ => ⟨S6x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34_0 : Ref sig .tc := ⟨.hbm, 47, rfl⟩
abbrev main_v34_1 : Ref sig .tc := ⟨.hbm, 48, rfl⟩
abbrev main_v34_2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x6912 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x6912 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x2560 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Quant.lean ====
/-
  Hand-written, untrusted. THE QUANTISER, on extended reals: a token's scale from its largest magnitude (`qscale`), a
  value's code from the value and the scale (`qcode`), and that a code is an integer between −7 and 7, so that its
  conversions to and from integer formats lose nothing.
-/
module

public import Idealize.ShloMosaic.Lib.Pointwise
public import Idealize.ShloMosaic.Lib.IdealHost

@[expose] public section

noncomputable section

namespace Cert.Proof.Quant

open Idealize.ShloMosaic

/-- The largest magnitude of a row. -/
def qmax {n : Nat} (f : Fin n → EReal) : EReal :=
  Finset.univ.fold max (Ideal.ofBits FTy.f32 0xFF800000#32) fun k => (FloatOps.absf (F := Ideal) (φ := .f32) (f k) : EReal)

/-- A token's scale. -/
def qscale (clip amax : EReal) : EReal :=
  if amax = 0 then 1 else Ideal.div (Ideal.logistic clip * amax) (Ideal.ofBits FTy.f32 0x40E00000#32)

/-- A value's code. -/
def qcode (z s : EReal) : EReal :=
  min (Ideal.ofBits FTy.f32 0x40E00000#32) (max (Ideal.ofBits FTy.f32 0xC0E00000#32) (Ideal.liftRound Ideal.roundHalfEven (Ideal.div z s)))

/-- A magnitude is not negative. -/
theorem absf_nonneg (x : EReal) : 0 ≤ (FloatOps.absf (F := Ideal) (φ := .f32) x : EReal) := by
  show 0 ≤ max x (-x)
  rcases le_total 0 x with h | h
  · exact le_max_of_le_left h
  · exact le_max_of_le_right (EReal.neg_nonneg.2 h)

theorem qmax_le {n : Nat} (f : Fin n → EReal) (c : EReal) :
    qmax f ≤ c ↔ Ideal.ofBits FTy.f32 0xFF800000#32 ≤ c ∧ ∀ k, (FloatOps.absf (F := Ideal) (φ := .f32) (f k) : EReal) ≤ c := by
  unfold qmax
  rw [Finset.fold_max_le]
  simp

theorem seven : Ideal.ofBits FTy.f32 0x40E00000#32 = (((7 : ℤ) : ℝ) : EReal) := by
  simp [Ideal.ofBits, Ideal.ieee]
  norm_cast
  norm_num

theorem minus_seven : Ideal.ofBits FTy.f32 0xC0E00000#32 = (((-7 : ℤ) : ℝ) : EReal) := by
  simp [Ideal.ofBits, Ideal.ieee]
  norm_cast
  norm_num

/-- A code is an integer between −7 and 7. -/
theorem qcode_int (z s : EReal) : ∃ n : ℤ, -7 ≤ n ∧ n ≤ 7 ∧ qcode z s = ((n : ℝ) : EReal) := by
  unfold qcode
  rw [seven, minus_seven]
  generalize Ideal.div z s = v
  induction v using EReal.rec with
  | bot => exact ⟨-7, by decide, by decide, by
      show min _ (max _ ⊥) = _
      rw [max_eq_left bot_le, min_eq_right]
      exact EReal.coe_le_coe_iff.2 (by norm_num)⟩
  | top => exact ⟨7, by decide, by decide, by
      show min _ (max _ ⊤) = _
      rw [max_eq_right le_top, min_eq_left le_top]⟩
  | coe r => exact ⟨min 7 (max (-7) (Ideal.roundHalfEven r)), by omega, by omega, by
      show min _ (max _ ((_ : ℝ) : EReal)) = _
      rw [← EReal.coe_strictMono.monotone.map_max, ← EReal.coe_strictMono.monotone.map_min]
      push_cast
      rfl⟩

theorem clamp_int (lo hi n : ℤ) (h0 : lo ≤ n) (h1 : n ≤ hi) : Ideal.toIntClamped lo hi ((n : ℝ) : EReal) = n := by
  show max lo (min hi (if (0 : ℝ) ≤ (n : ℝ) then ⌊(n : ℝ)⌋ else ⌈(n : ℝ)⌉)) = n
  rw [Int.floor_intCast, Int.ceil_intCast, ite_self]
  omega

theorem fptosi8_int (n : ℤ) (h0 : -7 ≤ n) (h1 : n ≤ 7) : Ideal.fptosi 8 ((n : ℝ) : EReal) = BitVec.ofInt 8 n := by
  unfold Ideal.fptosi
  rw [clamp_int _ _ n (by norm_num; omega) (by norm_num; omega)]

theorem fptosi32_int (n : ℤ) (h0 : -7 ≤ n) (h1 : n ≤ 7) : Ideal.fptosi 32 ((n : ℝ) : EReal) = BitVec.ofInt 32 n := by
  unfold Ideal.fptosi
  rw [clamp_int _ _ n (by norm_num; omega) (by norm_num; omega)]

/-- A code's integer taken through 32 bits is the one taken at once. -/
theorem code_narrow (z s : EReal) : (Ideal.fptosi 32 (qcode z s)).setWidth 8 = Ideal.fptosi 8 (qcode z s) := by
  obtain ⟨n, h0, h1, e⟩ := qcode_int z s
  rw [e, fptosi8_int n h0 h1, fptosi32_int n h0 h1]
  interval_cases n <;> decide

/-- A code's integer, read back, is the code. -/
theorem code_back (z s : EReal) : ((((Ideal.fptosi 8 (qcode z s)).toInt : ℤ) : ℝ) : EReal) = qcode z s := by
  obtain ⟨n, h0, h1, e⟩ := qcode_int z s
  rw [e, fptosi8_int n h0 h1]
  congr 2
  interval_cases n <;> decide

end Cert.Proof.Quant

end
-- ==== Proof.Plain.lean ====
/-
  Hand-written, untrusted. THE TRANSFORM IN PLAIN SUMS: a row of 2560 activations read as a 40 × 64 matrix, multiplied
  by one matrix on each side (`zrow`), and that sums in which all but one block of terms vanish are sums over the block.
-/
module

public import proofs.«01_k».proof.Proof.Quant

@[expose] public section

noncomputable section

namespace Cert.Proof.Plain

open Idealize.ShloMosaic

/-- The place of entry (i, j) of the 40 × 64 matrix in the row. -/
def place (i : Fin 40) (j : Fin 64) : Fin 2560 := ⟨i.val * 64 + j.val, by omega⟩

/-- A scaled row times the 64 × 64 matrix: entry (i, k). -/
def ysum (f g : Fin 2560 → EReal) (p2 : Fin 64 → Fin 64 → EReal) (i : Fin 40) (k : Fin 64) : EReal :=
  ∑ j : Fin 64, (f (place i j) * g (place i j)) * p2 j k

/-- The 40 × 40 matrix, transposed, times that: entry (a, k). -/
def zsum (f g : Fin 2560 → EReal) (p1 : Fin 40 → Fin 40 → EReal) (p2 : Fin 64 → Fin 64 → EReal) (a : Fin 40) (k : Fin 64) : EReal :=
  ∑ i : Fin 40, ysum f g p2 i k * p1 i a

/-- The transformed row. -/
def zrow (f g : Fin 2560 → EReal) (p1 : Fin 40 → Fin 40 → EReal) (p2 : Fin 64 → Fin 64 → EReal) (κ : Fin 2560) : EReal :=
  zsum f g p1 p2 ⟨κ.val / 64, by omega⟩ ⟨κ.val % 64, by omega⟩

/-- The row's scale. -/
def pscale (f g : Fin 2560 → EReal) (p1 : Fin 40 → Fin 40 → EReal) (p2 : Fin 64 → Fin 64 → EReal) (clip : EReal) : EReal :=
  Quant.qscale clip (Quant.qmax (zrow f g p1 p2))

/-- The row's codes. -/
def pcode (f g : Fin 2560 → EReal) (p1 : Fin 40 → Fin 40 → EReal) (p2 : Fin 64 → Fin 64 → EReal) (clip : EReal) (κ : Fin 2560) : EReal :=
  Quant.qcode (zrow f g p1 p2 κ) (pscale f g p1 p2 clip)

/-- A sum over 256 terms, of which only those of block u do not vanish. -/
theorem sum_block (F : Fin 256 → EReal) (u : Fin 4) (h0 : ∀ c : Fin 256, c.val / 64 ≠ u.val → F c = 0) :
    ∑ c, F c = ∑ j : Fin 64, F ⟨u.val * 64 + j.val, by omega⟩ := by
  refine (Fintype.sum_of_injective (fun j : Fin 64 => (⟨u.val * 64 + j.val, by omega⟩ : Fin 256)) ?_ _ F ?_ fun _ => rfl).symm
  · intro a b h
    have := congrArg Fin.val h
    exact Fin.ext (by dsimp only at this; omega)
  · intro c hc
    refine h0 c fun h => hc ⟨⟨c.val % 64, by omega⟩, Fin.ext ?_⟩
    show u.val * 64 + c.val % 64 = c.val
    omega

/-- The place of row i's term among the 160, in group kg. -/
def lane16 (kg : Fin 4) (i : Fin 40) : Fin 160 := ⟨i.val / 4 * 16 + kg.val * 4 + i.val % 4, by omega⟩

theorem lane16_group (kg : Fin 4) (i : Fin 40) : (lane16 kg i).val % 16 / 4 = kg.val := by
  show (i.val / 4 * 16 + kg.val * 4 + i.val % 4) % 16 / 4 = kg.val
  omega
theorem lane16_row (kg : Fin 4) (i : Fin 40) : (lane16 kg i).val / 16 * 4 + (lane16 kg i).val % 4 = i.val := by
  show (i.val / 4 * 16 + kg.val * 4 + i.val % 4) / 16 * 4 + (i.val / 4 * 16 + kg.val * 4 + i.val % 4) % 4 = i.val
  omega

/-- A sum over 160 terms, of which only those of group kg do not vanish. -/
theorem sum_group (F : Fin 160 → EReal) (kg : Fin 4) (h0 : ∀ s : Fin 160, s.val % 16 / 4 ≠ kg.val → F s = 0) :
    ∑ s, F s = ∑ i : Fin 40, F (lane16 kg i) := by
  refine (Fintype.sum_of_injective (lane16 kg) ?_ _ F ?_ fun _ => rfl).symm
  · intro a b h
    have e := lane16_row kg a
    rw [h, lane16_row] at e
    exact Fin.ext e.symm
  · intro s hs
    refine h0 s fun h => hs ⟨⟨s.val / 16 * 4 + s.val % 4, by omega⟩, Fin.ext ?_⟩
    have e : s.val = s.val / 16 * 16 + s.val % 16 / 4 * 4 + s.val % 4 := by omega
    show (s.val / 16 * 4 + s.val % 4) / 4 * 16 + kg.val * 4 + (s.val / 16 * 4 + s.val % 4) % 4 = s.val
    omega

end Cert.Proof.Plain

end
-- ==== Proof.KernelHost.lean ====
/-
  Hand-written, untrusted. WHAT THE KERNEL'S HOST OPERATIONS LEAVE: the two matrices of the transform spread over blocks of
  zeros, and the reshaped arguments.
-/
module

public import proofs.«01_k».proof.Proof.Gen.KernelIdeal.Frame
public import Idealize.ShloMosaic.Lib.Pipeline.Value
public import Idealize.ShloMosaic.Lib.Pointwise
public import Idealize.ShloMosaic.Lib.IdealHost

@[expose] public section

set_option maxRecDepth 16384

noncomputable section

namespace Cert.Proof.Host

open Idealize.ShloMosaic Idealize.SL.Sem Cert.KernelIdeal Cert.KernelIdeal.Gen Idealize.ShloMosaic.TcCoe

variable (m : (ℓ : Loc nD τ sig) → Buf (Elt Ideal) ℓ) (ρ : Dev nD → PrngReg)

/-- The 4 × 4 unit matrix. -/
def eye : FVec Ideal S4x4 .bf16 :=
  uitofp .bf16 (cmpi .eq (addi (iotaInDim S4x4 32 0) (broadcastInDim S4x4 ![] bcast_S_S4x4 (constantI S_ 32 0#32))) (iotaInDim S4x4 32 1))

/-- The 64 × 64 matrix spread four times. -/
def spread1 (p2 : FVec Ideal S64x64 .bf16) : FVec Ideal S256x256 .bf16 :=
  shapeCast S256x256 (mulf
    (broadcastInDim S64x4x4x64 ![0, 1, 2, 3] bcast_S64x1x1x64_S64x4x4x64_0_1_2_3
      (broadcastInDim S64x1x1x64 ![0, 3] bcast_S64x64_S64x1x1x64_0_3 (transpose S64x64 [1, 0] p2 transposes_S64x64_S64x64_1_0)))
    (broadcastInDim S64x4x4x64 ![0, 1, 2, 3] bcast_S1x4x4x1_S64x4x4x64_0_1_2_3
      (broadcastInDim S1x4x4x1 ![1, 2] bcast_S4x4_S1x4x4x1_1_2 eye))) shapeCasts_S64x4x4x64_S256x256

/-- The 40 × 40 matrix spread four times. -/
def spread2 (p1 : FVec Ideal S40x40 .bf16) : FVec Ideal S160x160 .bf16 :=
  shapeCast S160x160 (mulf
    (broadcastInDim S20x4x2x10x4x4 ![0, 1, 2, 3, 4, 5] bcast_S20x1x2x10x1x4_S20x4x2x10x4x4_0_1_2_3_4_5
      (broadcastInDim S20x1x2x10x1x4 ![0, 2, 3, 5] bcast_S20x2x10x4_S20x1x2x10x1x4_0_2_3_5
        (transpose S20x2x10x4 [2, 3, 0, 1] (shapeCast S10x4x20x2 p1 shapeCasts_S40x40_S10x4x20x2) transposes_S10x4x20x2_S20x2x10x4_2_3_0_1)))
    (broadcastInDim S20x4x2x10x4x4 ![0, 1, 2, 3, 4, 5] bcast_S1x4x1x1x4x1_S20x4x2x10x4x4_0_1_2_3_4_5
      (broadcastInDim S1x4x1x1x4x1 ![1, 4] bcast_S4x4_S1x4x1x1x4x1_1_4 eye))) shapeCasts_S20x4x2x10x4x4_S160x160

theorem V_x (c : Dev nD) : V1 m ρ c main_v0 = shapeCast S1536x2560 (m ((c : Thread nD τ).loc main_arg0)) shapeCasts_S6x256x2560_S1536x2560 := by
  show StableHlo.after hostOps0 _ (Proc.devRef .tc main_v0) = _
  after_results_simp
  rfl
theorem V_l1 (c : Dev nD) : V1 m ρ c main_v13 = spread1 (m ((c : Thread nD τ).loc main_arg3)) := by
  show StableHlo.after hostOps0 _ (Proc.devRef .tc main_v13) = _
  after_results_simp
  rfl
theorem V_l2 (c : Dev nD) : V1 m ρ c main_v27 = spread2 (m ((c : Thread nD τ).loc main_arg2)) := by
  show StableHlo.after hostOps0 _ (Proc.devRef .tc main_v27) = _
  after_results_simp
  rfl
theorem V_cs (c : Dev nD) : V1 m ρ c main_v28 = shapeCast S1x2560 (m ((c : Thread nD τ).loc main_arg1)) shapeCasts_S2560_S1x2560 := by
  show StableHlo.after hostOps0 _ (Proc.devRef .tc main_v28) = _
  after_results_simp
  rfl
theorem V_clip (c : Dev nD) : V1 m ρ c main_v29 = shapeCast S1 (m ((c : Thread nD τ).loc main_arg4)) shapeCasts_S_S1 := by
  show StableHlo.after hostOps0 _ (Proc.devRef .tc main_v29) = _
  after_results_simp
  rfl

/-- The unit matrix at an index. -/
theorem eye_apply (a b : Fin 4) : eye (ix2 a b) = if a = b then (1 : EReal) else 0 := by
  pointwise [eye]
  show (((IntOp.cmpi .eq (IntOp.addi (BitVec.ofNat 32 a.val) 0#32) (BitVec.ofNat 32 b.val)).toNat : ℝ) : EReal) = _
  have h : (IntOp.cmpi .eq (IntOp.addi (BitVec.ofNat 32 a.val) 0#32) (BitVec.ofNat 32 b.val)).toNat = if a = b then 1 else 0 := by
    revert a b; decide +kernel
  rw [h]
  split <;> simp

/-- The spread 64 × 64 matrix at an index. -/
theorem spread1_apply (p2 : FVec Ideal S64x64 .bf16) (R C : Fin 256) : spread1 p2 (ix2 R C)
    = p2 (ix2 ⟨C.val % 64, by omega⟩ ⟨R.val / 4, by omega⟩) * eye (ix2 ⟨R.val % 4, by omega⟩ ⟨C.val / 64, by omega⟩) := by
  pointwise [spread1]

theorem spread2_apply (p1 : FVec Ideal S40x40 .bf16) (R s : Fin 160) : spread2 p1 (ix2 R s)
    = p1 (ix2 ⟨s.val / 16 * 4 + s.val % 4, by omega⟩ ⟨2 * (R.val / 8) + R.val % 2, by omega⟩)
      * eye (ix2 ⟨R.val % 8 / 2, by omega⟩ ⟨s.val % 16 / 4, by omega⟩) := by
  pointwise [spread2]
  have e1 : R.val / 8 * 2 + R.val % 2 = 2 * (R.val / 8) + R.val % 2 := by omega
  have e2 : R.val / 2 % 4 = R.val % 8 / 2 := by omega
  have e3 : s.val / 4 % 4 = s.val % 16 / 4 := by omega
  simp only [e1, e2, e3]

end Cert.Proof.Host

end
-- ==== Proof.Pieces.lean ====
/-
  Hand-written, untrusted. STORES THAT ARE BLOCKS OF ONE FUNCTION: how a list of stores is shown to be made of blocks of a
  function one store after the other, and what a buffer covered by such stores holds.
-/
module

public import Idealize.ShloMosaic.Lib.Pipeline.ReadBack
public import Idealize.ShloMosaic.Lib.Pipeline.ValueKit

@[expose] public section

noncomputable section

namespace Cert.Proof.Pieces

open Idealize.ShloMosaic

/-- A list of stores one more of which is a block of `G`. -/
theorem pieces_cons {S : Shape} {e : EltTy} {G : S.Idx → Elt Ideal e} {p : View.Piece (Elt Ideal) S e} {L : List (View.Piece (Elt Ideal) S e)}
    (h : ∀ x : p.1.shape.Idx, G (p.1.emb x) = p.2 x) (hL : View.PiecesOf G L) : View.PiecesOf G (p :: L) := ⟨fun x => (h x).symm, hL⟩

/-- Stores that are all blocks of one function, and cover the buffer, leave that function. -/
theorem canon_full {S : Shape} {e : EltTy} (G : S.Idx → Elt Ideal e) (L : List (View.Piece (Elt Ideal) S e)) (h : View.PiecesOf G L)
    (hc : ∀ y, ∃ p ∈ L, y ∈ p.1.set) : View.canon L = G :=
  funext fun y => View.canon_apply_of_pieces G L h.mem y (hc y)

end Cert.Proof.Pieces

end
-- ==== Proof.TransY.lean ====
/-
  Hand-written, untrusted. THE FIRST STAGE OF THE TRANSFORM at one grid point: what its scratch of first products holds
  after all its stores, as one function of the blocks the point reads (`y1val`).
-/
module

public import proofs.«01_k».proof.Proof.Pieces
public import proofs.«01_k».proof.Proof.Gen.KernelIdeal.Frame
public import Idealize.ShloMosaic.Lib.Pipeline.ValueKit

@[expose] public section

noncomputable section

namespace Cert.Proof.Tra

open Cert.Proof.Pieces Idealize.ShloMosaic Idealize.SL.Sem Cert.KernelIdeal Cert.KernelIdeal.Gen

/-- A dot product of `f` with the entrywise product of `g` and `h`. -/
def dot3 (f g h : Fin 256 → EReal) : EReal := ∑ c, f c * (g c * h c)

/-- The row of the first factor that entry (g, r) of the first products comes from. -/
def lrow (g : Fin 16) (r : Fin 160) : Fin 256 := ⟨g.val * 16 + r.val % 16, by omega⟩

/-- The column of the activations that term c of entry (g, r) reads. -/
def xcol (r : Fin 160) (c : Fin 256) : Fin 2560 := ⟨r.val / 16 * 256 + c.val, by omega⟩

/-- The first products: entry (g, r, t). -/
def y1val (x0 : Vec Ideal S256x2560 .bf16) (x1 : Vec Ideal S1x2560 .f32) (x2 : Vec Ideal S256x256 .bf16) : Vec Ideal S16x160x256 .bf16 := fun y =>
  dot3 (fun c => x2 (ix2 (lrow (y 0) (y 1)) c)) (fun c => x0 (ix2 (y 2) (xcol (y 1) c))) (fun c => x1 (ix2 0 (xcol (y 1) c)))

theorem k0_pay4_apply (a : Vec Ideal S256x256 .bf16) (s : Vec Ideal S1x256 .f32) (l : Vec Ideal S256x256 .bf16) (r t : Fin 256) :
    k0_pay4 (F := Ideal) a s l (ix2 r t) = dot3 (fun c => l (ix2 r c)) (fun c => a (ix2 t c)) (fun c => s (ix2 0 c)) := by
  pointwise [k0_pay4, dot3]

/-- A stored piece of the first products, as the program computes it. -/
def y1pay (g : Nat) (hs : S256x256.Slices ![16 * g, 0] S16x256) (v : FVec Ideal S256x256 .bf16) : FVec Ideal S1x16x256 .bf16 :=
  shapeCast S1x16x256 (extractStridedSlice S16x256 ![16 * g, 0] v hs) shapeCasts_S16x256_S1x16x256

theorem y1pay_apply (g : Nat) (hs : S256x256.Slices ![16 * g, 0] S16x256) (v : FVec Ideal S256x256 .bf16) (a : Fin 16) (t : Fin 256) (r : Fin 256)
    (hr : r.val = 16 * g + a.val) : y1pay g hs v (ix3 0 a t) = v (ix2 r t) := by
  unfold y1pay
  rw [shapeCast_apply _ _ _ (ix2 a t) (by
    rw [rowMajor_val2 _ 256 rfl, rowMajor_val3 _ 4096 256 rfl rfl]; show a.val * 256 + t.val = 0 * 4096 + a.val * 256 + t.val; omega)]
  refine extractStridedSlice_apply _ _ _ _ (ix2 r t) fun c => ?_
  match c with
  | ⟨0, _⟩ => exact hr
  | ⟨1, _⟩ => exact (Nat.zero_add _).symm

theorem inbY {g r : Nat} (h : g < 16 ∧ r + 16 ≤ 160 ∧ r % 16 = 0) : ∀ a, (![g, r, 0] : Fin 3 → Nat) a + S1x16x256.size a ≤ S16x160x256.size a
  | ⟨0, _⟩ => h.1
  | ⟨1, _⟩ => h.2.1
  | ⟨2, _⟩ => Nat.le_refl 256

theorem slicesY {g r : Nat} (h : g < 16 ∧ r + 16 ≤ 160 ∧ r % 16 = 0) : S256x256.Slices ![16 * g, 0] S16x256 :=
  ⟨rfl, fun
    | ⟨0, _⟩ => by have := h.1; show 16 * g + 16 ≤ 256; omega
    | ⟨1, _⟩ => Nat.le_refl 256⟩

/-- One stored piece of the first products is a block of `y1val`. -/
theorem y1piece (arg1 : Memref sig .tc .vmem S256x2560 .bf16) (harg1 : arg1.IsWhole) (arg2 : Memref sig .tc .vmem S1x2560 .f32) (harg2 : arg2.IsWhole)
    (arg3 : Memref sig .tc .vmem S256x256 .bf16) (harg3 : arg3.IsWhole)
    (x0 : Vec Ideal S256x2560 .bf16) (x1 : Vec Ideal S1x2560 .f32) (x2 : Vec Ideal S256x256 .bf16) (g r : Nat)
    {h0 : ∀ a, (![0, 16 * r] : Fin 2 → Nat) a + S256x256.size a ≤ S256x2560.size a}
    {h1 : ∀ a, (![0, 16 * r] : Fin 2 → Nat) a + S1x256.size a ≤ S1x2560.size a}
    {h2 : ∀ a, (![0, 0] : Fin 2 → Nat) a + S256x256.size a ≤ S256x256.size a}
    (h : g < 16 ∧ r + 16 ≤ 160 ∧ r % 16 = 0) (x : S1x16x256.Idx) :
    y1val x0 x1 x2 ((Rect.unit (s := S16x160x256) ![g, r, 0] S1x16x256.size (inbY h)).emb x)
      = y1pay g (slicesY h) (k0_pay4 (F := Ideal)
          (View.readAt (Elt Ideal) arg1.view (Rect.unit (s := S256x2560) ![0, 16 * r] S256x256.size h0).toLoadRect (harg1.unread x0))
          (View.readAt (Elt Ideal) arg2.view (Rect.unit (s := S1x2560) ![0, 16 * r] S1x256.size h1).toLoadRect (harg2.unread x1))
          (View.readAt (Elt Ideal) arg3.view (Rect.unit (s := S256x256) ![0, 0] S256x256.size h2).toLoadRect (harg3.unread x2))) x := by
  obtain ⟨a, t, rfl⟩ : ∃ (a : Fin 16) (t : Fin 256), x = ix3 0 a t := ⟨x 1, x 2, by
    funext c; match c with | ⟨0, _⟩ => exact Subsingleton.elim (α := Fin 1) _ _ | ⟨1, _⟩ => rfl | ⟨2, _⟩ => rfl⟩
  have hg : g + 1 ≤ 16 := h.1
  have hr' : r + 16 ≤ 160 := h.2.1
  have hr : r % 16 = 0 := h.2.2
  rw [y1pay_apply g (slicesY h) _ a t ⟨16 * g + a.val, by omega⟩ rfl, k0_pay4_apply]
  simp only [View.readAt_eq_ld, harg1.read_unread, harg2.read_unread, harg3.read_unread]
  have ey : (Rect.unit (s := S16x160x256) ![g, r, 0] S1x16x256.size (inbY h)).emb (ix3 0 a t) = ix3 (⟨g, by omega⟩ : Fin 16) (⟨r + a.val, by omega⟩ : Fin 160) t := by
    funext c
    match c with
    | ⟨0, _⟩ => exact Fin.ext (by show g + 1 * 0 = g; omega)
    | ⟨1, _⟩ => exact Fin.ext (by show r + 1 * a.val = r + a.val; omega)
    | ⟨2, _⟩ => exact Fin.ext (by show 0 + 1 * t.val = t.val; omega)
  rw [ey]
  show dot3 _ _ _ = dot3 _ _ _
  congr 1
  · funext q
    show x2 _ = x2 _
    congr 1; funext c
    match c with
    | ⟨0, _⟩ => exact Fin.ext (by show g * 16 + (r + a.val) % 16 = 0 + 1 * (16 * g + a.val); omega)
    | ⟨1, _⟩ => exact Fin.ext (by show q.val = 0 + 1 * q.val; omega)
  · funext q
    show x0 _ = x0 _
    congr 1; funext c
    match c with
    | ⟨0, _⟩ => exact Fin.ext (by show t.val = 0 + 1 * t.val; omega)
    | ⟨1, _⟩ => exact Fin.ext (by show (r + a.val) / 16 * 256 + q.val = 16 * r + 1 * q.val; omega)
  · funext q
    show x1 _ = x1 _
    congr 1; funext c
    match c with
    | ⟨0, _⟩ => rfl
    | ⟨1, _⟩ => exact Fin.ext (by show (r + a.val) / 16 * 256 + q.val = 16 * r + 1 * q.val; omega)

set_option maxRecDepth 16384 in
set_option maxHeartbeats 4000000 in
/-- All stored pieces of the first products are blocks of `y1val`. -/
theorem y1_pieces (c : Dev nD) (arg1 : Memref sig .tc .vmem S256x2560 .bf16) (harg1 : arg1.IsWhole) (arg2 : Memref sig .tc .vmem S1x2560 .f32) (harg2 : arg2.IsWhole)
    (arg3 : Memref sig .tc .vmem S256x256 .bf16) (harg3 : arg3.IsWhole)
    (x0 : Vec Ideal S256x2560 .bf16) (x1 : Vec Ideal S1x2560 .f32) (x2 : Vec Ideal S256x256 .bf16) :
    View.PiecesOf (y1val x0 x1 x2) (kernelRun0_A.sl.HS0_160 (F := Ideal) c arg1 harg1 arg2 harg2 arg3 harg3 x0 x1 x2) := by
  have hp := @y1piece arg1 harg1 arg2 harg2 arg3 harg3 x0 x1 x2
  unfold kernelRun0_A.sl.HS0_160
  repeat' first
    | exact trivial
    | refine pieces_cons (hp _ _ (by decide)) ?_

end Cert.Proof.Tra

end
-- ==== Proof.TransZ.lean ====
/-
  Hand-written, untrusted. THE SECOND STAGE OF THE TRANSFORM at one grid point: what its scratch of transformed activations
  holds after all its stores, as one function of the blocks the point reads (`zval`).
-/
module

public import proofs.«01_k».proof.Proof.TransY

@[expose] public section

noncomputable section

namespace Cert.Proof.Tra

open Cert.Proof.Pieces Idealize.ShloMosaic Idealize.SL.Sem Cert.KernelIdeal Cert.KernelIdeal.Gen

/-- A dot product over the rows of a group of first products. -/
def dot2 (f g : Fin 160 → EReal) : EReal := ∑ c, f c * g c

theorem inbG {g : Nat} (h : g < 16) : ∀ a, (![g, 0, 0] : Fin 3 → Nat) a + S1x160x256.size a ≤ S16x160x256.size a
  | ⟨0, _⟩ => h
  | ⟨1, _⟩ => Nat.le_refl 160
  | ⟨2, _⟩ => Nat.le_refl 256

/-- A group of the first products read back. -/
theorem y1_read (c : Dev nD) (arg1 : Memref sig .tc .vmem S256x2560 .bf16) (harg1 : arg1.IsWhole) (arg2 : Memref sig .tc .vmem S1x2560 .f32) (harg2 : arg2.IsWhole)
    (arg3 : Memref sig .tc .vmem S256x256 .bf16) (harg3 : arg3.IsWhole) (arg10 : Memref sig .tc .vmem S16x160x256 .bf16)
    (x0 : Vec Ideal S256x2560 .bf16) (x1 : Vec Ideal S1x2560 .f32) (x2 : Vec Ideal S256x256 .bf16) (g : Nat) (h : g < 16) (r : Fin 160) (t : Fin 256) :
    arg10.view.readCov (kernelRun0_A.sl.HS0_160 (F := Ideal) c arg1 harg1 arg2 harg2 arg3 harg3 x0 x1 x2)
      (Rect.unit (s := S16x160x256) ![g, 0, 0] S1x160x256.size (inbG h)).toLoadRect (ix3 0 r t)
      = y1val x0 x1 x2 (ix3 ⟨g, h⟩ r t) := by
  rw [View.readCov_eq_canon', canon_full (y1val x0 x1 x2) _ (y1_pieces c arg1 harg1 arg2 harg2 arg3 harg3 x0 x1 x2)
    (View.cover_of_tiledL _ S1x16x256.size (by sl_kernel_rfl))]
  show y1val x0 x1 x2 _ = y1val x0 x1 x2 _
  congr 1
  funext c
  match c with
  | ⟨0, _⟩ => exact Fin.ext (by show g + 1 * 0 = g; omega)
  | ⟨1, _⟩ => exact Fin.ext (by show 0 + 1 * r.val = r.val; omega)
  | ⟨2, _⟩ => exact Fin.ext (by show 0 + 1 * t.val = t.val; omega)

/-- The row of the second factor that row r of a column block comes from. -/
def mrow (p : Fin 20) (r : Fin 128) : Fin 160 := ⟨p.val * 8 + r.val % 8, by omega⟩

/-- The group of first products it takes. -/
def grp (r : Fin 128) : Fin 16 := ⟨r.val / 8, by omega⟩

/-- The token of lane l of half h. -/
def tok (h : Fin 2) (l : Fin 128) : Fin 256 := ⟨h.val * 128 + l.val, by omega⟩

/-- An entry of the transformed activations: column block p, row r of it, token t. -/
def zent (x0 : Vec Ideal S256x2560 .bf16) (x1 : Vec Ideal S1x2560 .f32) (x2 : Vec Ideal S256x256 .bf16) (x3 : Vec Ideal S160x160 .bf16)
    (p : Fin 20) (r : Fin 128) (t : Fin 256) : EReal :=
  dot2 (fun s => x3 (ix2 (mrow p r) s)) (fun s => y1val x0 x1 x2 (ix3 (grp r) s t))

/-- The transformed activations: entry (h, p, r, l). -/
def zval (x0 : Vec Ideal S256x2560 .bf16) (x1 : Vec Ideal S1x2560 .f32) (x2 : Vec Ideal S256x256 .bf16) (x3 : Vec Ideal S160x160 .bf16) :
    Vec Ideal S2x20x128x128 .f32 := fun y => zent x0 x1 x2 x3 (y 1) (y 2) (tok (y 0) (y 3))

theorem k0_pay194_apply (l : Vec Ideal S160x160 .bf16) (b : Vec Ideal S1x160x256 .bf16) (r : Fin 160) (t : Fin 256) :
    k0_pay194 (F := Ideal) l b (ix2 r t) = dot2 (fun s => l (ix2 r s)) (fun s => b (ix3 0 s t)) := by
  pointwise [k0_pay194, dot2]

/-- A group of the second products, as the program computes it. -/
def zmat (c : Dev nD) (arg1 : Memref sig .tc .vmem S256x2560 .bf16) (harg1 : arg1.IsWhole) (arg2 : Memref sig .tc .vmem S1x2560 .f32) (harg2 : arg2.IsWhole)
    (arg3 : Memref sig .tc .vmem S256x256 .bf16) (harg3 : arg3.IsWhole) (arg4 : Memref sig .tc .vmem S160x160 .bf16) (harg4 : arg4.IsWhole)
    (arg10 : Memref sig .tc .vmem S16x160x256 .bf16)
    (x0 : Vec Ideal S256x2560 .bf16) (x1 : Vec Ideal S1x2560 .f32) (x2 : Vec Ideal S256x256 .bf16) (x3 : Vec Ideal S160x160 .bf16) (g : Nat)
    (h4 : ∀ a, (![0, 0] : Fin 2 → Nat) a + S160x160.size a ≤ S160x160.size a)
    (hg : ∀ a, (![g, 0, 0] : Fin 3 → Nat) a + S1x160x256.size a ≤ S16x160x256.size a) : FVec Ideal S160x256 .f32 :=
  k0_pay194 (F := Ideal) (View.readAt (Elt Ideal) arg4.view (Rect.unit (s := S160x160) ![0, 0] S160x160.size h4).toLoadRect (harg4.unread x3))
    (arg10.view.readCov (kernelRun0_A.sl.HS0_160 (F := Ideal) c arg1 harg1 arg2 harg2 arg3 harg3 x0 x1 x2)
      (Rect.unit (s := S16x160x256) ![g, 0, 0] S1x160x256.size hg).toLoadRect)

theorem zmat_apply (c : Dev nD) (arg1 : Memref sig .tc .vmem S256x2560 .bf16) (harg1 : arg1.IsWhole) (arg2 : Memref sig .tc .vmem S1x2560 .f32) (harg2 : arg2.IsWhole)
    (arg3 : Memref sig .tc .vmem S256x256 .bf16) (harg3 : arg3.IsWhole) (arg4 : Memref sig .tc .vmem S160x160 .bf16) (harg4 : arg4.IsWhole)
    (arg10 : Memref sig .tc .vmem S16x160x256 .bf16)
    (x0 : Vec Ideal S256x2560 .bf16) (x1 : Vec Ideal S1x2560 .f32) (x2 : Vec Ideal S256x256 .bf16) (x3 : Vec Ideal S160x160 .bf16) (g : Nat)
    (h4 : ∀ a, (![0, 0] : Fin 2 → Nat) a + S160x160.size a ≤ S160x160.size a)
    (hg : ∀ a, (![g, 0, 0] : Fin 3 → Nat) a + S1x160x256.size a ≤ S16x160x256.size a) (hg' : g < 16)
    (p : Fin 20) (j : Fin 8) (q : Fin 160) (hq : q.val = 8 * p.val + j.val) (t : Fin 256) :
    zmat c arg1 harg1 arg2 harg2 arg3 harg3 arg4 harg4 arg10 x0 x1 x2 x3 g h4 hg (ix2 q t)
      = zent x0 x1 x2 x3 p ⟨8 * g + j.val, by omega⟩ t := by
  unfold zmat
  rw [k0_pay194_apply]
  simp only [View.readAt_eq_ld, harg4.read_unread]
  show dot2 _ _ = dot2 _ _
  congr 1
  · funext s
    show x3 _ = x3 _
    congr 1; funext a
    match a with
    | ⟨0, _⟩ => exact Fin.ext (by show 0 + 1 * q.val = p.val * 8 + (8 * g + j.val) % 8; omega)
    | ⟨1, _⟩ => exact Fin.ext (by show 0 + 1 * s.val = s.val; omega)
  · funext s
    refine (y1_read c arg1 harg1 arg2 harg2 arg3 harg3 arg10 x0 x1 x2 g hg' s t).trans ?_
    congr 2
    exact Fin.ext (by show g = (8 * g + j.val) / 8; omega)

/-- Eight rows of a group of second products, as the program cuts them. -/
def zrows (p : Nat) (hs : S160x256.Slices ![8 * p, 0] S8x256) (z : FVec Ideal S160x256 .f32) : FVec Ideal S8x256 .f32 :=
  extractStridedSlice S8x256 ![8 * p, 0] z hs

theorem zrows_apply (p : Nat) (hs : S160x256.Slices ![8 * p, 0] S8x256) (z : FVec Ideal S160x256 .f32) (j : Fin 8) (t : Fin 256) (q : Fin 160)
    (hq : q.val = 8 * p + j.val) : zrows p hs z (ix2 j t) = z (ix2 q t) := by
  refine extractStridedSlice_apply _ _ _ _ (ix2 q t) fun c => ?_
  match c with
  | ⟨0, _⟩ => exact hq
  | ⟨1, _⟩ => exact (Nat.zero_add _).symm

/-- A stored piece of the transformed activations, as the program computes it. -/
def zpay (h p : Nat) (hp : S160x256.Slices ![8 * p, 0] S8x256) (hh : S8x256.Slices ![0, 128 * h] S8x128) (z : FVec Ideal S160x256 .f32) : FVec Ideal S1x1x8x128 .f32 :=
  shapeCast S1x1x8x128 (extractStridedSlice S8x128 ![0, 128 * h] (zrows p hp z) hh) shapeCasts_S8x128_S1x1x8x128

theorem zpay_apply (h p : Nat) (hp : S160x256.Slices ![8 * p, 0] S8x256) (hh : S8x256.Slices ![0, 128 * h] S8x128) (z : FVec Ideal S160x256 .f32)
    (j : Fin 8) (l : Fin 128) (q : Fin 160) (hq : q.val = 8 * p + j.val) (t : Fin 256) (ht : t.val = 128 * h + l.val) :
    zpay h p hp hh z (ix4 0 0 j l) = z (ix2 q t) := by
  unfold zpay
  rw [shapeCast_apply _ _ _ (ix2 j l) (by
    rw [rowMajor_val2 _ 128 rfl, rowMajor_val4 _ 1024 1024 128 rfl rfl rfl]; show j.val * 128 + l.val = 0 * 1024 + 0 * 1024 + j.val * 128 + l.val; omega)]
  rw [← zrows_apply p hp z j t q hq]
  refine extractStridedSlice_apply _ _ _ _ (ix2 j t) fun c => ?_
  match c with
  | ⟨0, _⟩ => exact (Nat.zero_add _).symm
  | ⟨1, _⟩ => exact ht

theorem inbZ {h p o : Nat} (w : h < 2 ∧ p < 20 ∧ o + 8 ≤ 128 ∧ o % 8 = 0) :
    ∀ a, (![h, p, o, 0] : Fin 4 → Nat) a + S1x1x8x128.size a ≤ S2x20x128x128.size a
  | ⟨0, _⟩ => w.1
  | ⟨1, _⟩ => w.2.1
  | ⟨2, _⟩ => w.2.2.1
  | ⟨3, _⟩ => Nat.le_refl 128

theorem slicesP {p : Nat} (w : p < 20) : S160x256.Slices ![8 * p, 0] S8x256 :=
  ⟨rfl, fun
    | ⟨0, _⟩ => by show 8 * p + 8 ≤ 160; omega
    | ⟨1, _⟩ => Nat.le_refl 256⟩

theorem slicesH {h : Nat} (w : h < 2) : S8x256.Slices ![0, 128 * h] S8x128 :=
  ⟨rfl, fun
    | ⟨0, _⟩ => Nat.le_refl 8
    | ⟨1, _⟩ => by show 128 * h + 128 ≤ 256; omega⟩

/-- One stored piece of the transformed activations is a block of `zval`. -/
theorem zpiece (c : Dev nD) (arg1 : Memref sig .tc .vmem S256x2560 .bf16) (harg1 : arg1.IsWhole) (arg2 : Memref sig .tc .vmem S1x2560 .f32) (harg2 : arg2.IsWhole)
    (arg3 : Memref sig .tc .vmem S256x256 .bf16) (harg3 : arg3.IsWhole) (arg4 : Memref sig .tc .vmem S160x160 .bf16) (harg4 : arg4.IsWhole)
    (arg10 : Memref sig .tc .vmem S16x160x256 .bf16)
    (x0 : Vec Ideal S256x2560 .bf16) (x1 : Vec Ideal S1x2560 .f32) (x2 : Vec Ideal S256x256 .bf16) (x3 : Vec Ideal S160x160 .bf16) (h p o : Nat)
    {h4 : ∀ a, (![0, 0] : Fin 2 → Nat) a + S160x160.size a ≤ S160x160.size a}
    {hg : ∀ a, (![o / 8, 0, 0] : Fin 3 → Nat) a + S1x160x256.size a ≤ S16x160x256.size a}
    (w : h < 2 ∧ p < 20 ∧ o + 8 ≤ 128 ∧ o % 8 = 0) (x : S1x1x8x128.Idx) :
    zval x0 x1 x2 x3 ((Rect.unit (s := S2x20x128x128) ![h, p, o, 0] S1x1x8x128.size (inbZ w)).emb x)
      = zpay h p (slicesP w.2.1) (slicesH w.1) (zmat c arg1 harg1 arg2 harg2 arg3 harg3 arg4 harg4 arg10 x0 x1 x2 x3 (o / 8) h4 hg) x := by
  obtain ⟨j, l, rfl⟩ : ∃ (j : Fin 8) (l : Fin 128), x = ix4 0 0 j l := ⟨x 2, x 3, by
    funext c; match c with | ⟨0, _⟩ => exact Subsingleton.elim (α := Fin 1) _ _ | ⟨1, _⟩ => exact Subsingleton.elim (α := Fin 1) _ _ | ⟨2, _⟩ => rfl | ⟨3, _⟩ => rfl⟩
  obtain ⟨w0, w1, w2, w3⟩ := w
  rw [zpay_apply h p _ _ _ j l ⟨8 * p + j.val, by omega⟩ rfl ⟨128 * h + l.val, by omega⟩ rfl,
    zmat_apply c arg1 harg1 arg2 harg2 arg3 harg3 arg4 harg4 arg10 x0 x1 x2 x3 (o / 8) h4 hg (by omega) ⟨p, w1⟩ j _ rfl]
  show zent _ _ _ _ _ _ _ = zent _ _ _ _ _ _ _
  congr 1
  · exact Fin.ext (by show o + 1 * j.val = 8 * (o / 8) + j.val; omega)
  · exact Fin.ext (by show (h + 1 * 0) * 128 + (0 + 1 * l.val) = 128 * h + l.val; omega)

set_option maxRecDepth 65536 in
set_option maxHeartbeats 4000000 in
/-- All stored pieces of the transformed activations are blocks of `zval`. -/
theorem z_pieces (c : Dev nD) (arg1 : Memref sig .tc .vmem S256x2560 .bf16) (harg1 : arg1.IsWhole) (arg2 : Memref sig .tc .vmem S1x2560 .f32) (harg2 : arg2.IsWhole)
    (arg3 : Memref sig .tc .vmem S256x256 .bf16) (harg3 : arg3.IsWhole) (arg4 : Memref sig .tc .vmem S160x160 .bf16) (harg4 : arg4.IsWhole)
    (arg10 : Memref sig .tc .vmem S16x160x256 .bf16)
    (x0 : Vec Ideal S256x2560 .bf16) (x1 : Vec Ideal S1x2560 .f32) (x2 : Vec Ideal S256x256 .bf16) (x3 : Vec Ideal S160x160 .bf16) :
    View.PiecesOf (zval x0 x1 x2 x3)
      (kernelRun0_A.sl.HS1_640 (F := Ideal) c arg1 harg1 arg2 harg2 arg3 harg3 arg4 harg4 arg10 x0 x1 x2 x3) := by
  have hp := @zpiece c arg1 harg1 arg2 harg2 arg3 harg3 arg4 harg4 arg10 x0 x1 x2 x3
  unfold kernelRun0_A.sl.HS1_640
  repeat' first
    | exact trivial
    | refine pieces_cons (hp _ _ _ (by decide)) ?_

end Cert.Proof.Tra

end
-- ==== Proof.TransMax.lean ====
/-
  Hand-written, untrusted. THE SCALE OF A TOKEN at one grid point of the transform: the running maximum the body keeps over
  the 320 groups of eight rows of the transformed activations, and the largest magnitude of a token it ends in.
-/
module

public import proofs.«01_k».proof.Proof.TransZ
public import proofs.«01_k».proof.Proof.Quant

@[expose] public section

noncomputable section

namespace Cert.Proof.Tra

open Cert.Proof.Pieces Cert.Proof.Quant Idealize.ShloMosaic Idealize.SL.Sem Cert.KernelIdeal Cert.KernelIdeal.Gen

/-- The running maximum after `n` groups of eight rows, twenty groups to a matrix. -/
def amx (Z : Nat → FVec Ideal S160x256 .f32) : Nat → FVec Ideal S8x256 .f32
  | 0 => broadcast S8x256 (Scalar.ofBits .f32 0x00000000#32)
  | n + 1 => maximumf (amx Z n) (absf (zrows (n % 20) (slicesP (Nat.mod_lt _ (by decide))) (Z (n / 20))))

/-- The group of second products numbered g. -/
def zgrp (c : Dev nD) (arg1 : Memref sig .tc .vmem S256x2560 .bf16) (harg1 : arg1.IsWhole) (arg2 : Memref sig .tc .vmem S1x2560 .f32) (harg2 : arg2.IsWhole)
    (arg3 : Memref sig .tc .vmem S256x256 .bf16) (harg3 : arg3.IsWhole) (arg4 : Memref sig .tc .vmem S160x160 .bf16) (harg4 : arg4.IsWhole)
    (arg10 : Memref sig .tc .vmem S16x160x256 .bf16)
    (x0 : Vec Ideal S256x2560 .bf16) (x1 : Vec Ideal S1x2560 .f32) (x2 : Vec Ideal S256x256 .bf16) (x3 : Vec Ideal S160x160 .bf16) (g : Nat) : FVec Ideal S160x256 .f32 :=
  zmat c arg1 harg1 arg2 harg2 arg3 harg3 arg4 harg4 arg10 x0 x1 x2 x3 (g % 16) (fun a => by match a with | ⟨0, _⟩ => exact Nat.le_refl 160 | ⟨1, _⟩ => exact Nat.le_refl 160)
    (inbG (Nat.mod_lt _ (by decide)))

/-- The running maximum before the last group. -/
theorem word_amx (c : Dev nD) (arg1 : Memref sig .tc .vmem S256x2560 .bf16) (harg1 : arg1.IsWhole) (arg2 : Memref sig .tc .vmem S1x2560 .f32) (harg2 : arg2.IsWhole)
    (arg3 : Memref sig .tc .vmem S256x256 .bf16) (harg3 : arg3.IsWhole) (arg4 : Memref sig .tc .vmem S160x160 .bf16) (harg4 : arg4.IsWhole)
    (arg10 : Memref sig .tc .vmem S16x160x256 .bf16)
    (x0 : Vec Ideal S256x2560 .bf16) (x1 : Vec Ideal S1x2560 .f32) (x2 : Vec Ideal S256x256 .bf16) (x3 : Vec Ideal S160x160 .bf16) :
    kernelRun0_A.sl.r_311 (F := Ideal) c arg1 harg1 arg2 harg2 arg3 harg3 arg4 harg4 arg10 x0 x1 x2 x3
      = amx (zgrp c arg1 harg1 arg2 harg2 arg3 harg3 arg4 harg4 arg10 x0 x1 x2 x3) 319 := by
  sl_kernel_rfl

theorem amx_apply (Z : Nat → FVec Ideal S160x256 .f32) (j : Fin 8) (t : Fin 256) (c : EReal) :
    ∀ n, amx Z n (ix2 j t) ≤ c ↔ 0 ≤ c ∧ ∀ i < n, (FloatOps.absf (F := Ideal) (φ := .f32) (Z (i / 20) (ix2 (⟨8 * (i % 20) + j.val, by omega⟩ : Fin 160) t)) : EReal) ≤ c
  | 0 => by
    have h : amx Z 0 (ix2 j t) = (0 : EReal) := by
      show Ideal.ofBits FTy.f32 0x00000000#32 = 0
      simp [Ideal.ofBits, Ideal.ieee]
    rw [h]; simp
  | n + 1 => by
    have h : amx Z (n + 1) (ix2 j t) = max (amx Z n (ix2 j t)) (FloatOps.absf (F := Ideal) (φ := .f32) (zrows (n % 20) (slicesP (Nat.mod_lt _ (by decide))) (Z (n / 20)) (ix2 j t)) : EReal) := rfl
    rw [h, max_le_iff, amx_apply Z j t c n, zrows_apply (n % 20) _ (Z (n / 20)) j t ⟨8 * (n % 20) + j.val, by omega⟩ rfl]
    constructor
    · rintro ⟨⟨h0, h1⟩, h2⟩
      refine ⟨h0, fun i hi => ?_⟩
      rcases Nat.lt_succ_iff_lt_or_eq.1 hi with h | rfl
      · exact h1 i h
      · exact h2
    · rintro ⟨h0, h1⟩
      exact ⟨⟨h0, fun i hi => h1 i (by omega)⟩, h1 n (by omega)⟩

theorem row_lt (k : Nat) : 2 * (k % 64) + k % 128 / 64 < 128 := by
  have h : k % 128 / 64 < 2 := by omega
  omega

theorem row_col (p r : Nat) (h : r < 128) : 2 * ((p * 128 + r % 2 * 64 + r / 2) % 64) + (p * 128 + r % 2 * 64 + r / 2) % 128 / 64 = r := by
  have h1 : (p * 128 + r % 2 * 64 + r / 2) % 64 = r / 2 := by omega
  have h2 : (p * 128 + r % 2 * 64 + r / 2) % 128 / 64 = r % 2 := by
    rw [show (p * 128 + r % 2 * 64 + r / 2) % 128 = r % 2 * 64 + r / 2 by omega]; omega
  omega

/-- The transformed activations of token t, column by column in the kernel's order of columns. -/
def zcol (x0 : Vec Ideal S256x2560 .bf16) (x1 : Vec Ideal S1x2560 .f32) (x2 : Vec Ideal S256x256 .bf16) (x3 : Vec Ideal S160x160 .bf16)
    (t : Fin 256) (k : Fin 2560) : EReal :=
  zent x0 x1 x2 x3 ⟨k.val / 128, by omega⟩ ⟨2 * (k.val % 64) + k.val % 128 / 64, row_lt k.val⟩ t

theorem k0_pay1370_apply (z : FVec Ideal S160x256 .f32) (am : FVec Ideal S8x256 .f32) (cl : Elt Ideal .f32) (t : Fin 256) :
    k0_pay1370 (F := Ideal) z am cl (ix2 0 t)
      = qscale cl (Finset.univ.fold max (Ideal.ofBits FTy.f32 0xFF800000#32) (fun x : Fin 8 =>
          max (am (ix2 x t)) (FloatOps.absf (F := Ideal) (φ := .f32) (z (ix2 (⟨152 + x.val, by omega⟩ : Fin 160) t)) : EReal))) := by
  pointwise [k0_pay1370, k0_pay1367, qscale]

/-- The scale of a token as the body computes it. -/
theorem scale_apply (c : Dev nD) (arg1 : Memref sig .tc .vmem S256x2560 .bf16) (harg1 : arg1.IsWhole) (arg2 : Memref sig .tc .vmem S1x2560 .f32) (harg2 : arg2.IsWhole)
    (arg3 : Memref sig .tc .vmem S256x256 .bf16) (harg3 : arg3.IsWhole) (arg4 : Memref sig .tc .vmem S160x160 .bf16) (harg4 : arg4.IsWhole)
    (arg10 : Memref sig .tc .vmem S16x160x256 .bf16)
    (x0 : Vec Ideal S256x2560 .bf16) (x1 : Vec Ideal S1x2560 .f32) (x2 : Vec Ideal S256x256 .bf16) (x3 : Vec Ideal S160x160 .bf16) (cl : Elt Ideal .f32) (t : Fin 256)
    {h4 : ∀ a, (![0, 0] : Fin 2 → Nat) a + S160x160.size a ≤ S160x160.size a}
    {hg : ∀ a, (![15, 0, 0] : Fin 3 → Nat) a + S1x160x256.size a ≤ S16x160x256.size a} :
    k0_pay1370 (F := Ideal) (zmat c arg1 harg1 arg2 harg2 arg3 harg3 arg4 harg4 arg10 x0 x1 x2 x3 15 h4 hg)
        (amx (zgrp c arg1 harg1 arg2 harg2 arg3 harg3 arg4 harg4 arg10 x0 x1 x2 x3) 319) cl (ix2 0 t)
      = qscale cl (qmax (zcol x0 x1 x2 x3 t)) := by
  rw [k0_pay1370_apply]
  congr 1
  refine eq_of_forall_ge_iff fun b => ?_
  rw [Finset.fold_max_le, qmax_le]
  refine and_congr_right fun _ => ?_
  have hz : ∀ (g : Nat) (hg : g < 16) (p : Nat) (hp : p < 20) (j : Fin 8),
      zgrp c arg1 harg1 arg2 harg2 arg3 harg3 arg4 harg4 arg10 x0 x1 x2 x3 g (ix2 (⟨8 * p + j.val, by omega⟩ : Fin 160) t)
        = zent x0 x1 x2 x3 ⟨p, hp⟩ ⟨8 * g + j.val, by omega⟩ t := fun g hg p hp j => by
    unfold zgrp
    rw [zmat_apply c arg1 harg1 arg2 harg2 arg3 harg3 arg4 harg4 arg10 x0 x1 x2 x3 (g % 16) _ _ (Nat.mod_lt _ (by decide)) ⟨p, hp⟩ j _ rfl t]
    congr 1
    exact Fin.ext (by show 8 * (g % 16) + j.val = 8 * g + j.val; omega)
  have hl : ∀ x : Fin 8, zmat c arg1 harg1 arg2 harg2 arg3 harg3 arg4 harg4 arg10 x0 x1 x2 x3 15 h4 hg (ix2 (⟨152 + x.val, by omega⟩ : Fin 160) t)
      = zent x0 x1 x2 x3 ⟨19, by decide⟩ ⟨120 + x.val, by omega⟩ t := fun x =>
    zmat_apply c arg1 harg1 arg2 harg2 arg3 harg3 arg4 harg4 arg10 x0 x1 x2 x3 15 h4 hg (by decide) ⟨19, by decide⟩ x _ rfl t
  simp only [max_le_iff, amx_apply, hl, Finset.mem_univ, forall_true_left]
  constructor
  · intro h k
    have hk := k.isLt
    have hr := row_lt k.val
    unfold zcol
    by_cases hlast : k.val / 128 = 19 ∧ (2 * (k.val % 64) + k.val % 128 / 64) / 8 = 15
    · have := (h ⟨(2 * (k.val % 64) + k.val % 128 / 64) % 8, Nat.mod_lt _ (by decide)⟩).2
      refine le_of_eq_of_le ?_ this
      congr 2
      · exact Fin.ext hlast.1
      · exact Fin.ext (by show 2 * (k.val % 64) + k.val % 128 / 64 = 120 + (2 * (k.val % 64) + k.val % 128 / 64) % 8; omega)
    · have := (h ⟨(2 * (k.val % 64) + k.val % 128 / 64) % 8, Nat.mod_lt _ (by decide)⟩).1.2
        ((2 * (k.val % 64) + k.val % 128 / 64) / 8 * 20 + k.val / 128) (by
          generalize 2 * (k.val % 64) + k.val % 128 / 64 = r at hr hlast ⊢; omega)
      have e := hz ((2 * (k.val % 64) + k.val % 128 / 64) / 8) (by omega) (k.val / 128) (by omega) ⟨(2 * (k.val % 64) + k.val % 128 / 64) % 8, Nat.mod_lt _ (by decide)⟩
      have d1 : ((2 * (k.val % 64) + k.val % 128 / 64) / 8 * 20 + k.val / 128) / 20 = (2 * (k.val % 64) + k.val % 128 / 64) / 8 := by omega
      have d2 : ((2 * (k.val % 64) + k.val % 128 / 64) / 8 * 20 + k.val / 128) % 20 = k.val / 128 := by omega
      simp only [d1, d2] at this
      rw [e] at this
      refine le_of_eq_of_le ?_ this
      congr 2
      exact Fin.ext (by show 2 * (k.val % 64) + k.val % 128 / 64 = 8 * ((2 * (k.val % 64) + k.val % 128 / 64) / 8) + (2 * (k.val % 64) + k.val % 128 / 64) % 8; omega)
  · intro h x
    have hc : ∀ (p : Nat) (hp : p < 20) (r : Nat) (hr : r < 128), (FloatOps.absf (F := Ideal) (φ := .f32) (zent x0 x1 x2 x3 ⟨p, hp⟩ ⟨r, hr⟩ t) : EReal) ≤ b := fun p hp r hr => by
      refine le_of_eq_of_le ?_ (h ⟨p * 128 + r % 2 * 64 + r / 2, by omega⟩)
      unfold zcol
      congr 2
      · exact Fin.ext (by show p = (p * 128 + r % 2 * 64 + r / 2) / 128; omega)
      · exact Fin.ext (row_col p r hr).symm
    refine ⟨⟨(absf_nonneg _).trans (h 0), fun i hi => ?_⟩, hc _ _ _ _⟩
    rw [hz (i / 20) (by omega) (i % 20) (by omega) x]
    exact hc _ _ _ _

end Cert.Proof.Tra

end
-- ==== Proof.TransOut.lean ====
/-
  Hand-written, untrusted. WHAT ONE GRID POINT OF THE TRANSFORM LEAVES in its four output blocks: the codes twice (as integers
  and as numbers), the scales of its tokens as a row, and the scales repeated in every lane.
-/
module

public import proofs.«01_k».proof.Proof.TransMax

@[expose] public section

noncomputable section

namespace Cert.Proof.Tra

open Cert.Proof.Pieces Cert.Proof.Quant Idealize.ShloMosaic Idealize.SL.Sem Cert.KernelIdeal Cert.KernelIdeal.Gen

/-- A token's scale. -/
def sent (x0 : Vec Ideal S256x2560 .bf16) (x1 : Vec Ideal S1x2560 .f32) (x2 : Vec Ideal S256x256 .bf16) (x3 : Vec Ideal S160x160 .bf16) (x4 : Vec Ideal S1 .f32)
    (t : Fin 256) : EReal := qscale (x4 (ix1 0)) (qmax (zcol x0 x1 x2 x3 t))

/-- A token's code in a column. -/
def cent (x0 : Vec Ideal S256x2560 .bf16) (x1 : Vec Ideal S1x2560 .f32) (x2 : Vec Ideal S256x256 .bf16) (x3 : Vec Ideal S160x160 .bf16) (x4 : Vec Ideal S1 .f32)
    (t : Fin 256) (k : Fin 2560) : EReal := qcode (zcol x0 x1 x2 x3 t k) (sent x0 x1 x2 x3 x4 t)

variable (c : Dev nD) (i : grid0.Coords) (arg1 : Memref sig .tc .vmem S256x2560 .bf16) (harg1 : arg1.IsWhole) (arg2 : Memref sig .tc .vmem S1x2560 .f32) (harg2 : arg2.IsWhole)
  (arg3 : Memref sig .tc .vmem S256x256 .bf16) (harg3 : arg3.IsWhole) (arg4 : Memref sig .tc .vmem S160x160 .bf16) (harg4 : arg4.IsWhole)
  (arg5 : Memref sig .tc .smem S1 .f32) (harg5 : arg5.IsWhole) (arg6 : Memref sig .tc .vmem S256x2560 .i8) (harg6 : arg6.IsWhole)
  (arg7 : Memref sig .tc .vmem S256x2560 .fp8e4m3) (harg7 : arg7.IsWhole) (arg8 : Memref sig .tc .vmem S1x1x256 .f32) (harg8 : arg8.IsWhole)
  (arg9 : Memref sig .tc .vmem S256x128 .f32) (harg9 : arg9.IsWhole) (arg10 : Memref sig .tc .vmem S16x160x256 .bf16) (harg10 : arg10.IsWhole)
  (arg11 : Memref sig .tc .vmem S2x20x128x128 .f32) (harg11 : arg11.IsWhole)
  (x0 : Vec Ideal S256x2560 .bf16) (x1 : Vec Ideal S1x2560 .f32) (x2 : Vec Ideal S256x256 .bf16) (x3 : Vec Ideal S160x160 .bf16) (x4 : Vec Ideal S1 .f32)

/-- The row of scales as the body computes it. -/
def scw : FVec Ideal S1x256 .f32 :=
  k0_pay1370 (F := Ideal) (kernelRun0_A.sl.r_295 (F := Ideal) c arg1 harg1 arg2 harg2 arg3 harg3 arg4 harg4 arg10 x0 x1 x2 x3)
    (kernelRun0_A.sl.r_311 (F := Ideal) c arg1 harg1 arg2 harg2 arg3 harg3 arg4 harg4 arg10 x0 x1 x2 x3)
    (kernelRun0_A.sl.r_313 (F := Ideal) c arg5 harg5 x4)

theorem word_last : kernelRun0_A.sl.r_295 (F := Ideal) c arg1 harg1 arg2 harg2 arg3 harg3 arg4 harg4 arg10 x0 x1 x2 x3
    = zmat c arg1 harg1 arg2 harg2 arg3 harg3 arg4 harg4 arg10 x0 x1 x2 x3 15
        (fun a => by match a with | ⟨0, _⟩ => exact Nat.le_refl 160 | ⟨1, _⟩ => exact Nat.le_refl 160) (inbG (by decide)) := by
  sl_kernel_rfl

theorem word_clip : kernelRun0_A.sl.r_313 (F := Ideal) c arg5 harg5 x4 = x4 (ix1 0) := by
  unfold kernelRun0_A.sl.r_313
  simp only [View.readAt_eq_ld, harg5.read_unread]
  show x4 _ = x4 _
  congr 1
  funext a
  match a with | ⟨0, _⟩ => exact Subsingleton.elim (α := Fin 1) _ _

theorem scw_apply (t : Fin 256) :
    scw c arg1 harg1 arg2 harg2 arg3 harg3 arg4 harg4 arg5 harg5 arg10 x0 x1 x2 x3 x4 (ix2 0 t) = sent x0 x1 x2 x3 x4 t := by
  unfold scw
  rw [word_last, word_amx, word_clip, scale_apply]
  rfl

/-- Half of the scales, as the body cuts them. -/
def srow (h : Nat) (hs : S1x256.Slices ![0, 128 * h] S1x128) (s : FVec Ideal S1x256 .f32) : FVec Ideal S1x128 .f32 :=
  extractStridedSlice S1x128 ![0, 128 * h] s hs

theorem srow_apply (h : Nat) (hs : S1x256.Slices ![0, 128 * h] S1x128) (s : FVec Ideal S1x256 .f32) (l : Fin 128) (t : Fin 256) (ht : t.val = 128 * h + l.val) :
    srow h hs s (ix2 0 l) = s (ix2 0 t) := by
  refine extractStridedSlice_apply _ _ _ _ (ix2 0 t) fun c => ?_
  match c with
  | ⟨0, _⟩ => rfl
  | ⟨1, _⟩ => exact ht

theorem slicesS {h : Nat} (w : h < 2) : S1x256.Slices ![0, 128 * h] S1x128 :=
  ⟨rfl, fun
    | ⟨0, _⟩ => Nat.le_refl 1
    | ⟨1, _⟩ => by show 128 * h + 128 ≤ 256; omega⟩

theorem inbS {h p a : Nat} (w : h < 2 ∧ p < 20 ∧ a < 2) : ∀ d, S1x1x64x128.size d = 0 ∨ (![h, p, a, 0] : Fin 4 → Nat) d + (![1, 1, 2, 1] : Fin 4 → Nat) d * (S1x1x64x128.size d - 1) < S2x20x128x128.size d
  | ⟨0, _⟩ => .inr w.1
  | ⟨1, _⟩ => .inr w.2.1
  | ⟨2, _⟩ => .inr (by obtain ⟨-, -, h⟩ := w; show a + 2 * 63 < 128; omega)
  | ⟨3, _⟩ => .inr (by show 0 + 1 * 127 < 128; decide)

/-- Every second row of a column block of the transformed activations, as the body reads it. -/
def zrd (h p a : Nat) (w : h < 2 ∧ p < 20 ∧ a < 2) : Vec Ideal S1x1x64x128 .f32 :=
  arg11.view.readCov (kernelRun0_A.sl.HS1_640 (F := Ideal) c arg1 harg1 arg2 harg2 arg3 harg3 arg4 harg4 arg10 x0 x1 x2 x3)
    ⟨![h, p, a, 0], S1x1x64x128.size, ![1, 1, 2, 1], inbS w⟩

theorem zrd_apply (h p a : Nat) (w : h < 2 ∧ p < 20 ∧ a < 2) (j : Fin 64) (l : Fin 128) (r : Fin 128) (hr : r.val = a + 2 * j.val) :
    zrd c arg1 harg1 arg2 harg2 arg3 harg3 arg4 harg4 arg10 arg11 x0 x1 x2 x3 h p a w (ix4 0 0 j l)
      = zval x0 x1 x2 x3 (ix4 (⟨h, w.1⟩ : Fin 2) (⟨p, w.2.1⟩ : Fin 20) r l) := by
  unfold zrd
  rw [View.readCov_eq_canon', canon_full (zval x0 x1 x2 x3) _ (z_pieces c arg1 harg1 arg2 harg2 arg3 harg3 arg4 harg4 arg10 x0 x1 x2 x3)
    (View.cover_of_tiledL _ S1x1x8x128.size (by sl_kernel_rfl))]
  show zval x0 x1 x2 x3 _ = zval x0 x1 x2 x3 _
  congr 1
  funext c
  match c with
  | ⟨0, _⟩ => exact Fin.ext (by show h + 1 * 0 = h; omega)
  | ⟨1, _⟩ => exact Fin.ext (by show p + 1 * 0 = p; omega)
  | ⟨2, _⟩ => exact Fin.ext (by show a + 2 * j.val = r.val; omega)
  | ⟨3, _⟩ => exact Fin.ext (by show 0 + 1 * l.val = l.val; omega)

theorem k0_pay1374_apply (s : FVec Ideal S1x128 .f32) (u v : Vec Ideal S1x1x64x128 .f32) (t l : Fin 128) :
    k0_pay1374 (F := Ideal) s u v (ix2 t l)
      = qcode (if h : l.val < 64 then u (ix4 0 0 ⟨l.val, h⟩ t) else v (ix4 0 0 ⟨l.val - 64, by omega⟩ t)) (s (ix2 0 t)) := by
  pointwise [k0_pay1374, qcode]
  split <;> rfl

/-- A block of codes as the body computes it: half h of the tokens, column block p. -/
def cmat (n : Nat) (hn : n < 40) : FVec Ideal S128x128 .f32 :=
  k0_pay1374 (F := Ideal) (srow (n / 20) (slicesS (by omega)) (scw c arg1 harg1 arg2 harg2 arg3 harg3 arg4 harg4 arg5 harg5 arg10 x0 x1 x2 x3 x4))
    (zrd c arg1 harg1 arg2 harg2 arg3 harg3 arg4 harg4 arg10 arg11 x0 x1 x2 x3 (n / 20) (n % 20) 0 (by omega))
    (zrd c arg1 harg1 arg2 harg2 arg3 harg3 arg4 harg4 arg10 arg11 x0 x1 x2 x3 (n / 20) (n % 20) 1 (by omega))

theorem cmat_apply (n : Nat) (hn : n < 40) (t l : Fin 128) (t' : Fin 256) (k : Fin 2560) (ht : t'.val = 128 * (n / 20) + t.val) (hk : k.val = 128 * (n % 20) + l.val) :
    cmat c arg1 harg1 arg2 harg2 arg3 harg3 arg4 harg4 arg5 harg5 arg10 arg11 x0 x1 x2 x3 x4 n hn (ix2 t l) = cent x0 x1 x2 x3 x4 t' k := by
  unfold cmat
  rw [k0_pay1374_apply, srow_apply _ _ _ t t' ht, scw_apply]
  unfold cent
  congr 1
  split
  · rw [zrd_apply (r := ⟨2 * l.val, by omega⟩) (hr := by simp)]
    show zent _ _ _ _ _ _ _ = zent _ _ _ _ _ _ _
    congr 1
    · exact Fin.ext (by show n % 20 = k.val / 128; omega)
    · exact Fin.ext (by show 2 * l.val = 2 * (k.val % 64) + k.val % 128 / 64; rw [show k.val % 64 = l.val by omega, show k.val % 128 = l.val by omega]; omega)
    · exact Fin.ext (by show n / 20 * 128 + t.val = t'.val; omega)
  · rw [zrd_apply (r := ⟨1 + 2 * (l.val - 64), by omega⟩) (hr := by simp)]
    show zent _ _ _ _ _ _ _ = zent _ _ _ _ _ _ _
    congr 1
    · exact Fin.ext (by show n % 20 = k.val / 128; omega)
    · exact Fin.ext (by show 1 + 2 * (l.val - 64) = 2 * (k.val % 64) + k.val % 128 / 64; rw [show k.val % 64 = l.val - 64 by omega, show k.val % 128 = l.val by omega]; omega)
    · exact Fin.ext (by show n / 20 * 128 + t.val = t'.val; omega)

theorem inbC {n : Nat} (hn : n < 40) : ∀ a, (![128 * (n / 20), 128 * (n % 20)] : Fin 2 → Nat) a + S128x128.size a ≤ S256x2560.size a
  | ⟨0, _⟩ => by show 128 * (n / 20) + 128 ≤ 256; omega
  | ⟨1, _⟩ => by show 128 * (n % 20) + 128 ≤ 2560; omega

/-- The stores of codes as integers, the last first. -/
def list5 : (n : Nat) → n ≤ 40 → List (View.Piece (Elt Ideal) S256x2560 .i8)
  | 0, _ => []
  | n + 1, h => ⟨Rect.unit (s := S256x2560) ![128 * (n / 20), 128 * (n % 20)] S128x128.size (inbC h),
      trunci 8 (fptosi 32 (cmat c arg1 harg1 arg2 harg2 arg3 harg3 arg4 harg4 arg5 harg5 arg10 arg11 x0 x1 x2 x3 x4 n h)) natLt_8_32⟩ :: list5 n (Nat.le_of_succ_le h)

/-- The stores of codes as numbers, the last first. -/
def list6 : (n : Nat) → n ≤ 40 → List (View.Piece (Elt Ideal) S256x2560 .fp8e4m3)
  | 0, _ => []
  | n + 1, h => ⟨Rect.unit (s := S256x2560) ![128 * (n / 20), 128 * (n % 20)] S128x128.size (inbC h),
      truncf .fp8e4m3 (cmat c arg1 harg1 arg2 harg2 arg3 harg3 arg4 harg4 arg5 harg5 arg10 arg11 x0 x1 x2 x3 x4 n h) bitsLt_fp8e4m3_f32⟩ :: list6 n (Nat.le_of_succ_le h)

theorem emb_C {n : Nat} (hn : n < 40) (t l : Fin 128) : (Rect.unit (s := S256x2560) ![128 * (n / 20), 128 * (n % 20)] S128x128.size (inbC hn)).emb (ix2 t l)
    = ix2 (⟨128 * (n / 20) + t.val, by omega⟩ : Fin 256) (⟨128 * (n % 20) + l.val, by omega⟩ : Fin 2560) := by
  funext a
  match a with
  | ⟨0, _⟩ => exact Fin.ext (by show 128 * (n / 20) + 1 * t.val = 128 * (n / 20) + t.val; omega)
  | ⟨1, _⟩ => exact Fin.ext (by show 128 * (n % 20) + 1 * l.val = 128 * (n % 20) + l.val; omega)

/-- The block of codes as integers. -/
def blk5 : Vec Ideal S256x2560 .i8 := fun y => Ideal.fptosi 8 (cent x0 x1 x2 x3 x4 (y 0) (y 1))

/-- The block of codes as numbers. -/
def blk6 : Vec Ideal S256x2560 .fp8e4m3 := fun y => cent x0 x1 x2 x3 x4 (y 0) (y 1)

/-- The scales as a row. -/
def blk7 : Vec Ideal S1x1x256 .f32 := fun y => sent x0 x1 x2 x3 x4 (y 2)

/-- The scales in every lane. -/
def blk8 : Vec Ideal S256x128 .f32 := fun y => sent x0 x1 x2 x3 x4 (y 0)

theorem pieces5 : ∀ (n : Nat) (h : n ≤ 40), View.PiecesOf (blk5 x0 x1 x2 x3 x4) (list5 c arg1 harg1 arg2 harg2 arg3 harg3 arg4 harg4 arg5 harg5 arg10 arg11 x0 x1 x2 x3 x4 n h)
  | 0, _ => trivial
  | n + 1, h => pieces_cons (fun x => by
      obtain ⟨t, l, rfl⟩ : ∃ (t l : Fin 128), x = ix2 t l := ⟨x 0, x 1, by funext c; match c with | ⟨0, _⟩ => rfl | ⟨1, _⟩ => rfl⟩
      show blk5 x0 x1 x2 x3 x4 ((Rect.unit (s := S256x2560) ![128 * (n / 20), 128 * (n % 20)] S128x128.size (inbC h)).emb (ix2 t l))
        = (Ideal.fptosi 32 (cmat c arg1 harg1 arg2 harg2 arg3 harg3 arg4 harg4 arg5 harg5 arg10 arg11 x0 x1 x2 x3 x4 n h (ix2 t l))).setWidth 8
      rw [emb_C h, cmat_apply (t' := ⟨128 * (n / 20) + t.val, by omega⟩) (k := ⟨128 * (n % 20) + l.val, by omega⟩) (ht := rfl) (hk := rfl)]
      exact (code_narrow _ _).symm) (pieces5 n (Nat.le_of_succ_le h))

theorem pieces6 : ∀ (n : Nat) (h : n ≤ 40), View.PiecesOf (blk6 x0 x1 x2 x3 x4) (list6 c arg1 harg1 arg2 harg2 arg3 harg3 arg4 harg4 arg5 harg5 arg10 arg11 x0 x1 x2 x3 x4 n h)
  | 0, _ => trivial
  | n + 1, h => pieces_cons (fun x => by
      obtain ⟨t, l, rfl⟩ : ∃ (t l : Fin 128), x = ix2 t l := ⟨x 0, x 1, by funext c; match c with | ⟨0, _⟩ => rfl | ⟨1, _⟩ => rfl⟩
      show blk6 x0 x1 x2 x3 x4 ((Rect.unit (s := S256x2560) ![128 * (n / 20), 128 * (n % 20)] S128x128.size (inbC h)).emb (ix2 t l))
        = cmat c arg1 harg1 arg2 harg2 arg3 harg3 arg4 harg4 arg5 harg5 arg10 arg11 x0 x1 x2 x3 x4 n h (ix2 t l)
      rw [emb_C h, cmat_apply (t' := ⟨128 * (n / 20) + t.val, by omega⟩) (k := ⟨128 * (n % 20) + l.val, by omega⟩) (ht := rfl) (hk := rfl)]
      rfl) (pieces6 n (Nat.le_of_succ_le h))

theorem run_list5 : (kernelRun0_A (F := Ideal) c i arg1 harg1 arg2 harg2 arg3 harg3 arg4 harg4 arg5 harg5 arg6 harg6 arg7 harg7 arg8 harg8 arg9 harg9 arg10 harg10 arg11 harg11 x0 x1 x2 x3 x4).1
    = list5 c arg1 harg1 arg2 harg2 arg3 harg3 arg4 harg4 arg5 harg5 arg10 arg11 x0 x1 x2 x3 x4 40 (Nat.le_refl 40) := by
  sl_kernel_rfl

theorem run_list6 : (kernelRun0_A (F := Ideal) c i arg1 harg1 arg2 harg2 arg3 harg3 arg4 harg4 arg5 harg5 arg6 harg6 arg7 harg7 arg8 harg8 arg9 harg9 arg10 harg10 arg11 harg11 x0 x1 x2 x3 x4).2.1
    = list6 c arg1 harg1 arg2 harg2 arg3 harg3 arg4 harg4 arg5 harg5 arg10 arg11 x0 x1 x2 x3 x4 40 (Nat.le_refl 40) := by
  sl_kernel_rfl

/-- The point's block of codes as integers. -/
theorem out5_eq : out0_A_5 (F := Ideal) c i arg1 harg1 arg2 harg2 arg3 harg3 arg4 harg4 arg5 harg5 arg6 harg6 arg7 harg7 arg8 harg8 arg9 harg9 arg10 harg10 arg11 harg11 x0 x1 x2 x3 x4
    = blk5 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 x0 x1 x2 x3 x4)]
  refine canon_full _ _ ?_ (cover0_A_5 c i arg1 harg1 arg2 harg2 arg3 harg3 arg4 harg4 arg5 harg5 arg6 harg6 arg7 harg7 arg8 harg8 arg9 harg9 arg10 harg10 arg11 harg11 x0 x1 x2 x3 x4)
  rw [run_list5]
  exact pieces5 c arg1 harg1 arg2 harg2 arg3 harg3 arg4 harg4 arg5 harg5 arg10 arg11 x0 x1 x2 x3 x4 40 _

/-- The point's block of codes as numbers. -/
theorem out6_eq : out0_A_6 (F := Ideal) c i arg1 harg1 arg2 harg2 arg3 harg3 arg4 harg4 arg5 harg5 arg6 harg6 arg7 harg7 arg8 harg8 arg9 harg9 arg10 harg10 arg11 harg11 x0 x1 x2 x3 x4
    = blk6 x0 x1 x2 x3 x4 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 x0 x1 x2 x3 x4)]
  refine canon_full _ _ ?_ (cover0_A_6 c i arg1 harg1 arg2 harg2 arg3 harg3 arg4 harg4 arg5 harg5 arg6 harg6 arg7 harg7 arg8 harg8 arg9 harg9 arg10 harg10 arg11 harg11 x0 x1 x2 x3 x4)
  rw [run_list6]
  exact pieces6 c arg1 harg1 arg2 harg2 arg3 harg3 arg4 harg4 arg5 harg5 arg10 arg11 x0 x1 x2 x3 x4 40 _

theorem inb7 : ∀ a, (![0, 0, 0] : Fin 3 → Nat) a + S1x1x256.size a ≤ S1x1x256.size a := by decide

theorem run_list7 : (kernelRun0_A (F := Ideal) c i arg1 harg1 arg2 harg2 arg3 harg3 arg4 harg4 arg5 harg5 arg6 harg6 arg7 harg7 arg8 harg8 arg9 harg9 arg10 harg10 arg11 harg11 x0 x1 x2 x3 x4).2.2.1
    = [⟨Rect.unit (s := S1x1x256) ![0, 0, 0] S1x1x256.size inb7,
        shapeCast S1x1x256 (scw c arg1 harg1 arg2 harg2 arg3 harg3 arg4 harg4 arg5 harg5 arg10 x0 x1 x2 x3 x4) shapeCasts_S1x256_S1x1x256⟩] := by
  sl_kernel_rfl

/-- The point's row of scales. -/
theorem out7_eq : out0_A_7 (F := Ideal) c i arg1 harg1 arg2 harg2 arg3 harg3 arg4 harg4 arg5 harg5 arg6 harg6 arg7 harg7 arg8 harg8 arg9 harg9 arg10 harg10 arg11 harg11 x0 x1 x2 x3 x4
    = blk7 x0 x1 x2 x3 x4 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4)]
  refine canon_full _ _ ?_ (cover0_A_7 c i arg1 harg1 arg2 harg2 arg3 harg3 arg4 harg4 arg5 harg5 arg6 harg6 arg7 harg7 arg8 harg8 arg9 harg9 arg10 harg10 arg11 harg11 x0 x1 x2 x3 x4)
  rw [run_list7]
  refine pieces_cons (fun x => ?_) trivial
  obtain ⟨t, rfl⟩ : ∃ (t : Fin 256), x = ix3 0 0 t := ⟨x 2, by
    funext c; match c with | ⟨0, _⟩ => exact Subsingleton.elim (α := Fin 1) _ _ | ⟨1, _⟩ => exact Subsingleton.elim (α := Fin 1) _ _ | ⟨2, _⟩ => rfl⟩
  show blk7 x0 x1 x2 x3 x4 ((Rect.unit (s := S1x1x256) ![0, 0, 0] S1x1x256.size inb7).emb (ix3 0 0 t))
    = shapeCast S1x1x256 (scw c arg1 harg1 arg2 harg2 arg3 harg3 arg4 harg4 arg5 harg5 arg10 x0 x1 x2 x3 x4) shapeCasts_S1x256_S1x1x256 (ix3 0 0 t)
  rw [shapeCast_apply _ _ _ (ix2 0 t) (by
    rw [rowMajor_val2 _ 256 rfl, rowMajor_val3 _ 256 256 rfl rfl]; show 0 * 256 + t.val = 0 * 256 + 0 * 256 + t.val; omega), scw_apply]
  unfold blk7
  congr 1
  exact Fin.ext (by show 0 + 1 * t.val = t.val; omega)

/-- A stored half of the repeated scales, as the body computes it. -/
def smat (h : Nat) (hs : S1x256.Slices ![0, 128 * h] S1x128) (s : FVec Ideal S1x256 .f32) : FVec Ideal S128x128 .f32 :=
  transpose S128x128 [1, 0] (broadcastTo S128x128 (shapeCast S1x128 (srow h hs s) shapeCasts_S1x128_S1x128) broadcasts_S1x128_S128x128) transposes_S128x128_p1_0_S128x128

theorem smat_apply (h : Nat) (hs : S1x256.Slices ![0, 128 * h] S1x128) (s : FVec Ideal S1x256 .f32) (t l : Fin 128) (t' : Fin 256) (ht : t'.val = 128 * h + t.val) :
    smat h hs s (ix2 t l) = s (ix2 0 t') := by
  rw [← srow_apply h hs s t t' ht]
  generalize e : srow h hs s = v
  unfold smat
  rw [e]
  pointwise

theorem inb8 {h : Nat} (w : h < 2) : ∀ a, (![128 * h, 0] : Fin 2 → Nat) a + S128x128.size a ≤ S256x128.size a
  | ⟨0, _⟩ => by show 128 * h + 128 ≤ 256; omega
  | ⟨1, _⟩ => Nat.le_refl 128

theorem run_list8 : (kernelRun0_A (F := Ideal) c i arg1 harg1 arg2 harg2 arg3 harg3 arg4 harg4 arg5 harg5 arg6 harg6 arg7 harg7 arg8 harg8 arg9 harg9 arg10 harg10 arg11 harg11 x0 x1 x2 x3 x4).2.2.2.1
    = [⟨Rect.unit (s := S256x128) ![128 * 1, 0] S128x128.size (inb8 (by decide)),
        smat 1 (slicesS (by decide)) (scw c arg1 harg1 arg2 harg2 arg3 harg3 arg4 harg4 arg5 harg5 arg10 x0 x1 x2 x3 x4)⟩,
       ⟨Rect.unit (s := S256x128) ![128 * 0, 0] S128x128.size (inb8 (by decide)),
        smat 0 (slicesS (by decide)) (scw c arg1 harg1 arg2 harg2 arg3 harg3 arg4 harg4 arg5 harg5 arg10 x0 x1 x2 x3 x4)⟩] := by
  sl_kernel_rfl

theorem piece8 (h : Nat) (w : h < 2) (x : S128x128.Idx) :
    blk8 x0 x1 x2 x3 x4 ((Rect.unit (s := S256x128) ![128 * h, 0] S128x128.size (inb8 w)).emb x)
      = smat h (slicesS w) (scw c arg1 harg1 arg2 harg2 arg3 harg3 arg4 harg4 arg5 harg5 arg10 x0 x1 x2 x3 x4) x := by
  obtain ⟨t, l, rfl⟩ : ∃ (t l : Fin 128), x = ix2 t l := ⟨x 0, x 1, by funext c; match c with | ⟨0, _⟩ => rfl | ⟨1, _⟩ => rfl⟩
  rw [smat_apply _ _ _ t l ⟨128 * h + t.val, by omega⟩ rfl, scw_apply]
  show sent _ _ _ _ _ _ = sent _ _ _ _ _ _
  congr 1
  exact Fin.ext (by show 128 * h + 1 * t.val = 128 * h + t.val; omega)

/-- The point's block of repeated scales. -/
theorem out8_eq : out0_A_8 (F := Ideal) c i arg1 harg1 arg2 harg2 arg3 harg3 arg4 harg4 arg5 harg5 arg6 harg6 arg7 harg7 arg8 harg8 arg9 harg9 arg10 harg10 arg11 harg11 x0 x1 x2 x3 x4
    = blk8 x0 x1 x2 x3 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4)]
  refine canon_full _ _ ?_ (cover0_A_8 c i arg1 harg1 arg2 harg2 arg3 harg3 arg4 harg4 arg5 harg5 arg6 harg6 arg7 harg7 arg8 harg8 arg9 harg9 arg10 harg10 arg11 harg11 x0 x1 x2 x3 x4)
  rw [run_list8]
  exact pieces_cons (piece8 c arg1 harg1 arg2 harg2 arg3 harg3 arg4 harg4 arg5 harg5 arg10 x0 x1 x2 x3 x4 1 (by decide))
    (pieces_cons (piece8 c arg1 harg1 arg2 harg2 arg3 harg3 arg4 harg4 arg5 harg5 arg10 x0 x1 x2 x3 x4 0 (by decide)) trivial)

end Cert.Proof.Tra

end
-- ==== Proof.TransValue.lean ====
/-
  Hand-written, untrusted. THE FOUR RESULT ARRAYS of the transform after all its grid points, row by row.
-/
module

public import proofs.«01_k».proof.Proof.TransOut
public import Idealize.ShloMosaic.Lib.Pipeline.Value

@[expose] public section

set_option maxRecDepth 16384

noncomputable section

namespace Cert.Proof.Tra

open Cert.Proof.Quant Idealize.ShloMosaic Idealize.SL.Sem Cert.KernelIdeal Cert.KernelIdeal.Gen Idealize.ShloMosaic.TcCoe

variable (V : (c : Dev nD) → (b : Ref sig .tc) → Buf (Elt Ideal) ((c : Thread nD τ).loc b))

/-- A row of activations, as a block of equal rows. -/
def rowx (f : Fin 2560 → EReal) : Vec Ideal S256x2560 .bf16 := fun y => f (y 1)

/-- A row of activations transformed, column by column. -/
def rowz (f : Fin 2560 → EReal) (x1 : Vec Ideal S1x2560 .f32) (x2 : Vec Ideal S256x256 .bf16) (x3 : Vec Ideal S160x160 .bf16) (k : Fin 2560) : EReal :=
  zcol (rowx f) x1 x2 x3 0 k

/-- The row's scale. -/
def rowscale (f : Fin 2560 → EReal) (x1 : Vec Ideal S1x2560 .f32) (x2 : Vec Ideal S256x256 .bf16) (x3 : Vec Ideal S160x160 .bf16) (x4 : Vec Ideal S1 .f32) : EReal :=
  qscale (x4 (ix1 0)) (qmax (rowz f x1 x2 x3))

/-- The row's codes. -/
def rowcode (f : Fin 2560 → EReal) (x1 : Vec Ideal S1x2560 .f32) (x2 : Vec Ideal S256x256 .bf16) (x3 : Vec Ideal S160x160 .bf16) (x4 : Vec Ideal S1 .f32) (k : Fin 2560) : EReal :=
  qcode (rowz f x1 x2 x3 k) (rowscale f x1 x2 x3 x4)

theorem sent_row (x0 : Vec Ideal S256x2560 .bf16) (x1 : Vec Ideal S1x2560 .f32) (x2 : Vec Ideal S256x256 .bf16) (x3 : Vec Ideal S160x160 .bf16) (x4 : Vec Ideal S1 .f32)
    (t : Fin 256) : sent x0 x1 x2 x3 x4 t = rowscale (fun k => x0 (ix2 t k)) x1 x2 x3 x4 := rfl

theorem cent_row (x0 : Vec Ideal S256x2560 .bf16) (x1 : Vec Ideal S1x2560 .f32) (x2 : Vec Ideal S256x256 .bf16) (x3 : Vec Ideal S160x160 .bf16) (x4 : Vec Ideal S1 .f32)
    (t : Fin 256) (k : Fin 2560) : cent x0 x1 x2 x3 x4 t k = rowcode (fun k => x0 (ix2 t k)) x1 x2 x3 x4 k := rfl

/-- The blocks of the grid's points: 256 rows of activations; the other operands whole. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0] := (by decide +kernel : ∀ t : Fin grid0.N, win0_4.index t = ![0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0, 0] := (by decide +kernel : ∀ t : Fin grid0.N, win0_7.index t = ![t.val, 0, 0])
theorem idx8 : ∀ t : Fin cfg0.N, win0_8.index t = ![t.val, 0] := (by decide +kernel : ∀ t : Fin grid0.N, win0_8.index t = ![t.val, 0])

theorem in1 (c : Dev nD) (t : Fin cfg0.N) : iblk0 V c 1 t = V c main_v28 := funext fun x => by
  show V c main_v28 ((win0_1.blk t).view.emb x) = V c main_v28 x
  congr 1; blk_ext [idx1]
theorem in2 (c : Dev nD) (t : Fin cfg0.N) : iblk0 V c 2 t = V c main_v13 := funext fun x => by
  show V c main_v13 ((win0_2.blk t).view.emb x) = V c main_v13 x
  congr 1; blk_ext [idx2]
theorem in3 (c : Dev nD) (t : Fin cfg0.N) : iblk0 V c 3 t = V c main_v27 := funext fun x => by
  show V c main_v27 ((win0_3.blk t).view.emb x) = V c main_v27 x
  congr 1; blk_ext [idx3]
theorem in4 (c : Dev nD) (t : Fin cfg0.N) : iblk0 V c 4 t = V c main_v29 := funext fun x => by
  show V c main_v29 ((win0_4.blk t).view.emb x) = V c main_v29 x
  congr 1; blk_ext [idx4]

/-- The array's row of a block's row. -/
def arow (t : Fin cfg0.N) (a : Fin 256) : Fin 1536 := ⟨t.val * 256 + a.val, by have : t.val < 6 := t.isLt; omega⟩

theorem in0 (c : Dev nD) (t : Fin cfg0.N) (a : Fin 256) (k : Fin 2560) : iblk0 V c 0 t (ix2 a k) = V c main_v0 (ix2 (arow t a) k) := by
  show V c main_v0 ((win0_0.blk t).view.emb (ix2 a k)) = _
  congr 1
  have h : (arow t a).val = t.val * 256 + a.val := rfl
  blk_ext [idx0]

/-- A row of the array the transform reads, and what the array's other operands are. -/
abbrev gscale (c : Dev nD) (i : Fin 1536) : EReal := rowscale (fun k => V c main_v0 (ix2 i k)) (V c main_v28) (V c main_v13) (V c main_v27) (V c main_v29)

abbrev gcode (c : Dev nD) (i : Fin 1536) (k : Fin 2560) : EReal := rowcode (fun k => V c main_v0 (ix2 i k)) (V c main_v28) (V c main_v13) (V c main_v27) (V c main_v29) k

theorem blk_sent (c : Dev nD) (t : Fin cfg0.N) (a : Fin 256) :
    sent (iblk0 V c 0 t) (iblk0 V c 1 t) (iblk0 V c 2 t) (iblk0 V c 3 t) (iblk0 V c 4 t) a = gscale V c (arow t a) := by
  rw [sent_row, in1, in2, in3, in4]
  simp only [in0]

theorem blk_cent (c : Dev nD) (t : Fin cfg0.N) (a : Fin 256) (k : Fin 2560) :
    cent (iblk0 V c 0 t) (iblk0 V c 1 t) (iblk0 V c 2 t) (iblk0 V c 3 t) (iblk0 V c 4 t) a k = gcode V c (arow t a) k := by
  rw [cent_row, in1, in2, in3, in4]
  simp only [in0]

/-- The codes as integers. -/
def arr5 (c : Dev nD) : Vec Ideal S1536x2560 .i8 := fun y => Ideal.fptosi 8 (gcode V c (y 0) (y 1))
/-- The codes as numbers. -/
def arr6 (c : Dev nD) : Vec Ideal S1536x2560 .fp8e4m3 := fun y => gcode V c (y 0) (y 1)
/-- The scales, 256 to a row. -/
def arr7 (c : Dev nD) : Vec Ideal S6x1x256 .f32 := fun y => gscale V c (arow (y 0) (y 2))
/-- The scales in every lane. -/
def arr8 (c : Dev nD) : Vec Ideal S1536x128 .f32 := fun y => gscale V c (y 0)

theorem final5 (c : Dev nD) : (dat0 V c).arrAt 5 cfg0.N = arr5 V c := by
  refine (dat0 V c).arrAt_eq_of_covers 5 _ (by decide +kernel) fun t hf y => ?_
  have hb : (dat0 V c).after 5 t = blk5 (iblk0 V c 0 t) (iblk0 V c 1 t) (iblk0 V c 2 t) (iblk0 V c 3 t) (iblk0 V c 4 t) := by
    rw [after0_5]; simp only [outsAt0, out5_eq]
  blk_simp
  rw [hb]
  obtain ⟨a, n, rfl⟩ : ∃ (a : Fin 256) (n : Fin 2560), y = ix2 a n := ⟨y 0, y 1, by funext c; match c with | ⟨0, _⟩ => rfl | ⟨1, _⟩ => rfl⟩
  have h : (arow t a).val = t.val * 256 + a.val := rfl
  have e : (win0_5.blk t).view.emb (ix2 a n) = ix2 (arow t a) n := by blk_ext [idx5]
  rw [e]
  exact congrArg (Ideal.fptosi 8) (blk_cent V c t a n)

theorem final6 (c : Dev nD) : (dat0 V c).arrAt 6 cfg0.N = arr6 V c := by
  refine (dat0 V c).arrAt_eq_of_covers 6 _ (by decide +kernel) fun t hf y => ?_
  have hb : (dat0 V c).after 6 t = blk6 (iblk0 V c 0 t) (iblk0 V c 1 t) (iblk0 V c 2 t) (iblk0 V c 3 t) (iblk0 V c 4 t) := by
    rw [after0_6]; simp only [outsAt0, out6_eq]
  blk_simp
  rw [hb]
  obtain ⟨a, n, rfl⟩ : ∃ (a : Fin 256) (n : Fin 2560), y = ix2 a n := ⟨y 0, y 1, by funext c; match c with | ⟨0, _⟩ => rfl | ⟨1, _⟩ => rfl⟩
  have h : (arow t a).val = t.val * 256 + a.val := rfl
  have e : (win0_6.blk t).view.emb (ix2 a n) = ix2 (arow t a) n := by blk_ext [idx6]
  rw [e]
  exact blk_cent V c t a n

theorem final7 (c : Dev nD) : (dat0 V c).arrAt 7 cfg0.N = arr7 V c := by
  refine (dat0 V c).arrAt_eq_of_covers 7 _ (by decide +kernel) fun t hf y => ?_
  have hb : (dat0 V c).after 7 t = blk7 (iblk0 V c 0 t) (iblk0 V c 1 t) (iblk0 V c 2 t) (iblk0 V c 3 t) (iblk0 V c 4 t) := by
    rw [after0_7]; simp only [outsAt0, out7_eq]
  blk_simp
  rw [hb]
  obtain ⟨a, rfl⟩ : ∃ (a : Fin 256), y = ix3 0 0 a := ⟨y 2, by
    funext c; match c with | ⟨0, _⟩ => exact Subsingleton.elim (α := Fin 1) _ _ | ⟨1, _⟩ => exact Subsingleton.elim (α := Fin 1) _ _ | ⟨2, _⟩ => rfl⟩
  have ht : t.val < 6 := t.isLt
  have e : (win0_7.blk t).view.emb (ix3 0 0 a) = ix3 (⟨t.val, ht⟩ : Fin 6) 0 a := by blk_ext [idx7]
  rw [e]
  exact blk_sent V c t a

theorem final8 (c : Dev nD) : (dat0 V c).arrAt 8 cfg0.N = arr8 V c := by
  refine (dat0 V c).arrAt_eq_of_covers 8 _ (by decide +kernel) fun t hf y => ?_
  have hb : (dat0 V c).after 8 t = blk8 (iblk0 V c 0 t) (iblk0 V c 1 t) (iblk0 V c 2 t) (iblk0 V c 3 t) (iblk0 V c 4 t) := by
    rw [after0_8]; simp only [outsAt0, out8_eq]
  blk_simp
  rw [hb]
  obtain ⟨a, n, rfl⟩ : ∃ (a : Fin 256) (n : Fin 128), y = ix2 a n := ⟨y 0, y 1, by funext c; match c with | ⟨0, _⟩ => rfl | ⟨1, _⟩ => rfl⟩
  have h : (arow t a).val = t.val * 256 + a.val := rfl
  have e : (win0_8.blk t).view.emb (ix2 a n) = ix2 (arow t a) n := by blk_ext [idx8]
  rw [e]
  exact blk_sent V c t a

end Cert.Proof.Tra

end
-- ==== Proof.KernelRow.lean ====
/-
  Hand-written, untrusted. A ROW THE KERNEL TRANSFORMS IN PLAIN SUMS: with the two matrices spread over blocks of zeros, each of
  its long sums is the short one.
-/
module

public import proofs.«01_k».proof.Proof.Plain
public import proofs.«01_k».proof.Proof.KernelHost
public import proofs.«01_k».proof.Proof.TransValue

@[expose] public section

set_option maxRecDepth 16384

noncomputable section

namespace Cert.Proof.Host

open Cert.Proof.Plain Cert.Proof.Tra Cert.Proof.Quant Idealize.ShloMosaic Idealize.SL.Sem Cert.KernelIdeal Cert.KernelIdeal.Gen Idealize.ShloMosaic.TcCoe

/-- The first products: entry (g, r) of a row, in plain sums. -/
theorem y1val_plain (f : Fin 2560 → EReal) (g : Vec Ideal S1x2560 .f32) (p2 : FVec Ideal S64x64 .bf16) (G : Fin 16) (r : Fin 160) :
    y1val (rowx f) g (spread1 p2) (ix3 G r 0)
      = ysum f (fun k => g (ix2 0 k)) (fun a b => p2 (ix2 a b)) ⟨r.val / 16 * 4 + r.val % 4, by omega⟩ ⟨G.val * 4 + r.val % 16 / 4, by omega⟩ := by
  show dot3 (fun c => spread1 p2 (ix2 (lrow G r) c)) (fun c => f (xcol r c)) (fun c => g (ix2 0 (xcol r c))) = _
  have hR : (lrow G r).val = G.val * 16 + r.val % 16 := rfl
  have e1 : (lrow G r).val % 4 = r.val % 4 := by omega
  have e2 : (lrow G r).val / 4 = G.val * 4 + r.val % 16 / 4 := by omega
  unfold dot3 ysum
  rw [sum_block _ ⟨r.val % 4, by omega⟩ fun c hc => ?_]
  · refine Finset.sum_congr rfl fun j _ => ?_
    have e3 : (r.val % 4 * 64 + j.val) % 64 = j.val := by omega
    have e4 : (r.val % 4 * 64 + j.val) / 64 = r.val % 4 := by omega
    have e5 : xcol r ⟨r.val % 4 * 64 + j.val, by omega⟩ = place ⟨r.val / 16 * 4 + r.val % 4, by omega⟩ j := Fin.ext (by
      show r.val / 16 * 256 + (r.val % 4 * 64 + j.val) = (r.val / 16 * 4 + r.val % 4) * 64 + j.val
      omega)
    dsimp only
    rw [spread1_apply, eye_apply]
    simp only [e1, e2, e3, e4, e5, if_true]
    rw [mul_one, mul_comm]
  · dsimp only
    rw [spread1_apply, eye_apply, if_neg, mul_zero, zero_mul]
    intro h
    have h := congrArg Fin.val h
    dsimp only at h
    exact hc (by show c.val / 64 = r.val % 4; omega)

/-- The transformed row the kernel quantises is the plain one. -/
theorem rowz_plain (f : Fin 2560 → EReal) (g : Vec Ideal S1x2560 .f32) (p1 : FVec Ideal S40x40 .bf16) (p2 : FVec Ideal S64x64 .bf16) (κ : Fin 2560) :
    rowz f g (spread1 p2) (spread2 p1) κ = zrow f (fun k => g (ix2 0 k)) (fun a b => p1 (ix2 a b)) (fun a b => p2 (ix2 a b)) κ := by
  have hκ : κ.val < 2560 := κ.isLt
  unfold rowz zcol zent zrow zsum dot2
  obtain ⟨p, hp⟩ : ∃ p : Fin 20, p.val = κ.val / 128 := ⟨⟨κ.val / 128, by omega⟩, rfl⟩
  obtain ⟨r, hr⟩ : ∃ r : Fin 128, r.val = 2 * (κ.val % 64) + κ.val % 128 / 64 := ⟨⟨_, row_lt κ.val⟩, rfl⟩
  have hp' : (⟨κ.val / 128, by omega⟩ : Fin 20) = p := Fin.ext hp.symm
  have hr' : (⟨2 * (κ.val % 64) + κ.val % 128 / 64, row_lt κ.val⟩ : Fin 128) = r := Fin.ext hr.symm
  have ha : 2 * p.val + r.val % 2 = κ.val / 64 := by
    have h1 : κ.val / 128 = κ.val / 64 / 2 := by omega
    have h2 : κ.val % 128 / 64 = κ.val / 64 % 2 := by omega
    clear hp' hr'
    rw [h1] at hp
    rw [h2] at hr
    generalize κ.val / 64 = b at hp hr ⊢
    generalize κ.val % 64 = j at hr
    omega
  have hk : r.val / 2 = κ.val % 64 := by
    have h2 : κ.val % 128 / 64 < 2 := by omega
    clear hp' hr'
    generalize κ.val % 128 / 64 = b at hr h2
    generalize κ.val % 64 = j at hr ⊢
    omega
  rw [hp', hr']
  have hR : (mrow p r).val = p.val * 8 + r.val % 8 := rfl
  have hG : (grp r).val = r.val / 8 := rfl
  have e0 : (mrow p r).val / 8 = p.val := by omega
  have e1 : (mrow p r).val % 2 = r.val % 2 := by omega
  have e2 : (mrow p r).val % 8 / 2 = r.val % 8 / 2 := by omega
  rw [sum_group _ ⟨r.val % 8 / 2, by omega⟩ fun s hs => ?_]
  · refine Finset.sum_congr rfl fun i _ => ?_
    have h1 := lane16_group ⟨r.val % 8 / 2, by omega⟩ i
    have h2 := lane16_row ⟨r.val % 8 / 2, by omega⟩ i
    dsimp only at h1
    have e6 : (grp r).val * 4 + r.val % 8 / 2 = κ.val % 64 := by omega
    dsimp only
    rw [spread2_apply, eye_apply, y1val_plain]
    simp only [h1, h2, e0, e1, e2, ha, e6, if_true]
    rw [mul_one, mul_comm]
  · dsimp only
    rw [spread2_apply, eye_apply, if_neg, mul_zero, zero_mul]
    intro h
    have h := congrArg Fin.val h
    dsimp only at h
    exact hs (by show s.val % 16 / 4 = r.val % 8 / 2; omega)

end Cert.Proof.Host

end
-- ==== Proof.Unpack.lean ====
/-
  Hand-written, untrusted. THE UNPACKING OF THE WEIGHT, read at an index. A byte of the packed weight holds two signed
  four-bit numbers: the low half belongs to the even output column, the high half to the odd one. The kernel reads four
  rows of bytes as one 32-bit word, gathers the word of lane `l / 2` (plus 64 for the second half of the lanes), shifts it
  so that the wanted half stands in the upper four bits of each byte, masks the rest away, reads the bytes back as signed
  numbers (sixteen times the wanted one) and multiplies by a sixteenth. `unpack_apply`: entry (r, l) of the unpacked block
  is the half numbered `l % 2` of byte (r, l / 2 + off).
-/
module

public import proofs.«01_k».proof.Proof.Gen.KernelIdeal
public import Idealize.ShloMosaic.Lib.Pointwise
public import Idealize.ShloMosaic.Lib.BitcastFour
public import Idealize.ShloMosaic.Lib.IdealHost

@[expose] public section

noncomputable section

namespace Cert.Proof.Mat

open Idealize.ShloMosaic Idealize.SL.Sem Cert.KernelIdeal
open Cert.KernelIdeal.Shapes1.Facts₀ Cert.KernelIdeal.Shapes2.Facts₀ Cert.KernelIdeal.Facts

/-- The signed four-bit number in the low (`p = 0`) or high (`p = 1`) half of a byte. -/
def nib (b : BitVec 8) (p : Nat) : Int :=
  let v : Int := if p = 0 then b.toNat % 16 else b.toNat / 16
  v - 16 * (if 8 ≤ v then 1 else 0)

/-- A byte with the half numbered `p` moved to its upper four bits and zeros below. -/
def upper (b : BitVec 8) (p : Nat) : BitVec 8 := (b <<< (4 - 4 * p)) &&& 0xF0#8

/-- Read as a signed number, that is sixteen times the half. -/
theorem upper_toInt (b : BitVec 8) (p : Nat) (hp : p < 2) : (upper b p).toInt = 16 * nib b p := by
  have h : ∀ (b : BitVec 8) (p : Fin 2), (upper b p.val).toInt = 16 * nib b p.val := by decide +kernel
  exact h b ⟨p, hp⟩

/-- The lane numbers. -/
def lanes : IVec S64x128 32 := iota .tc S64x128 32 [1] iota_S64x128_d1_w32

/-- The shift of each lane: 4 for an even lane, 0 for an odd one. -/
def shifts : IVec S64x128 32 := subi (broadcast S64x128 4#32) (muli (broadcast S64x128 4#32) (andi lanes (broadcast S64x128 1#32)))

/-- Half the lane number (the floor division as the program spells it) plus an offset, negative indices wrapped. -/
def halves (off : BitVec 32) : IVec S64x128 32 :=
  have q : IVec S64x128 32 := divsi lanes (broadcast S64x128 2#32)
  have sg : IVec S64x128 32 := subi (extui 32 (cmpi .sgt lanes (broadcast S64x128 0#32)) natLt_1_32)
    (extui 32 (cmpi .slt lanes (broadcast S64x128 0#32)) natLt_1_32)
  have sc : BitVec 32 := Scalar.subi (Scalar.extui (Scalar.cmpi .sgt 2#32 0#32)) (Scalar.extui (Scalar.cmpi .slt 2#32 0#32))
  have adj : IVec S64x128 1 := andi (cmpi .ne sg (broadcast S64x128 sc))
    (cmpi .ne (remsi lanes (broadcast S64x128 2#32)) (broadcast S64x128 0#32))
  have fl : IVec S64x128 32 := select adj (subi q (broadcast S64x128 1#32)) q
  have i : IVec S64x128 32 := addi fl (broadcast S64x128 off)
  select (cmpi .slt i (broadcast S64x128 0#32)) (addi i (broadcast S64x128 128#32)) i

/-- The block unpacked, as the program computes it. -/
def unpack (off : BitVec 32) {F : FTy → Type} [FloatOps F] (v : Vec F S256x128 .i8) : FVec F S256x128 .fp8e4m3 :=
  have w : IVec S64x128 32 := bitcast S64x128 32 v bitcasts_S256x128_w8_S64x128_w32
  have i : IVec S64x128 32 := shapeCast S64x128 (shapeCast S64x128x1 (halves off) shapeCasts_S64x128_S64x128x1) shapeCasts_S64x128x1_S64x128
  have g : IVec S64x128 32 := andi (shli (dynamicGather 1 w i) shifts) (broadcast S64x128 4042322160#32)
  have b : IVec S256x128 8 := bitcast S256x128 8 g bitcasts_S64x128_w32_S256x128_w8
  shapeCast S256x128 (truncf .fp8e4m3 (mulf (sitofp .bf16 b) (broadcast S256x128 (Scalar.ofBits .bf16 0x3D80#16))) bitsLt_fp8e4m3_bf16)
    shapeCasts_S256x128_S256x128

/-- The gather's index at lane `l` is `l / 2 + off`. -/
theorem halves_apply (off : BitVec 32) (ho : off = 0#32 ∨ off = 64#32) (a : Fin 64) (l : Fin 128) :
    (halves off (ix2 a l)).toNat = l.val / 2 + off.toNat := by
  pointwise [halves, lanes]
  rcases ho with rfl | rfl <;> revert l <;> decide +kernel

/-- The shift at lane `l`. -/
theorem shifts_apply (a : Fin 64) (l : Fin 128) : shifts (ix2 a l) = BitVec.ofNat 32 (4 - 4 * (l.val % 2)) := by
  pointwise [shifts, lanes]
  revert l; decide +kernel

theorem shifts_lt (l : Fin 128) : (BitVec.ofNat 32 (4 - 4 * (l.val % 2))).toNat = 4 - 4 * (l.val % 2) := by
  revert l; decide +kernel

/-- The gathered, shifted and masked word at (a, l). -/
theorem word_apply (off : BitVec 32) (ho : off = 0#32 ∨ off = 64#32) (w : IVec S64x128 32) (a : Fin 64) (l m : Fin 128)
    (hm : m.val = l.val / 2 + off.toNat) :
    andi (shli (dynamicGather 1 w (halves off)) shifts)
        (broadcast S64x128 4042322160#32) (ix2 a l)
      = (w (ix2 a m) <<< (4 - 4 * (l.val % 2))) &&& 4042322160#32 := by
  pointwise
  have e : (⟨(halves off (ix2 a l)).toNat % 128, Nat.mod_lt _ (by decide)⟩ : Fin 128) = m := by
    apply Fin.ext
    show (halves off (ix2 a l)).toNat % 128 = m.val
    rw [halves_apply off ho, hm, Nat.mod_eq_of_lt (hm ▸ m.isLt)]
  rw [e, shifts_apply]
  show IntOp.shli _ _ _ &&& _ = _
  unfold IntOp.shli
  rw [if_pos (by rw [shifts_lt]; omega), BitVec.shiftLeft_eq', shifts_lt]

/-- A bit of the mask. -/
theorem mask_bit (i : Nat) (hi : i < 32) : (4042322160#32 : BitVec 32).getLsbD i = decide (4 ≤ i % 8) := by
  have h : ∀ i : Fin 32, (4042322160#32 : BitVec 32).getLsbD i.val = decide (4 ≤ i.val % 8) := by decide +kernel
  exact h ⟨i, hi⟩
theorem mask8_bit (i : Nat) (hi : i < 8) : (0xF0#8 : BitVec 8).getLsbD i = decide (4 ≤ i) := by
  have h : ∀ i : Fin 8, (0xF0#8 : BitVec 8).getLsbD i.val = decide (4 ≤ i.val) := by decide +kernel
  exact h ⟨i, hi⟩

/-- The bytes read back from the words: byte (r, l) is the wanted half of byte (r, m), in the upper four bits. -/
theorem byte_apply (off : BitVec 32) (ho : off = 0#32 ∨ off = 64#32) (v : S256x128.Idx → BitVec 8) (r : Fin 256) (l m : Fin 128)
    (hm : m.val = l.val / 2 + off.toNat) :
    bitcast S256x128 8 (andi (shli (dynamicGather 1 (bitcast S64x128 32 v bitcasts_S256x128_w8_S64x128_w32) (halves off)) shifts)
        (broadcast S64x128 4042322160#32)) bitcasts_S64x128_w32_S256x128_w8 (ix2 r l)
      = upper (v (ix2 r m)) (l.val % 2) := by
  apply BitVec.eq_of_getLsbD_eq
  intro i hi
  rw [bitcast_getLsbD _ _ _ i hi (by decide)]
  have er : Shape.row S256x128 (ix2 r l) = r.val := rfl
  have ha : r.val / 4 < 64 := by omega
  have ej : (bitcasts_S64x128_w32_S256x128_w8).srcIdx (ix2 r l) ((Shape.row S256x128 (ix2 r l) * 8 + i) / 32)
      (fun a ha => (Nat.div_lt_iff_lt_mul (by decide)).2 ((bitcasts_S64x128_w32_S256x128_w8).pos_lt (ix2 r l) i hi a ha))
      = ix2 (⟨r.val / 4, ha⟩ : Fin 64) l := by
    funext c
    match c with
    | ⟨0, _⟩ => exact Fin.ext (((bitcasts_S64x128_w32_S256x128_w8).srcIdx_row _ _ _ ⟨0, Nat.zero_lt_two⟩ rfl).trans (by
        rw [er]; show (r.val * 8 + i) / 32 = r.val / 4; omega))
    | ⟨1, _⟩ => exact Fin.ext ((bitcasts_S64x128_w32_S256x128_w8).srcIdx_other _ _ _ ⟨1, Nat.one_lt_two⟩ (by show ¬ 1 + 2 = 2; omega))
  rw [ej, word_apply off ho _ _ l m hm, er]
  have hp : l.val % 2 < 2 := Nat.mod_lt _ (by decide)
  have hq : (r.val * 8 + i) % 32 < 32 := Nat.mod_lt _ (by decide)
  unfold upper
  rw [BitVec.getLsbD_and, BitVec.getLsbD_and, mask_bit _ hq, mask8_bit i hi, show (r.val * 8 + i) % 32 % 8 = i by omega]
  by_cases h4 : 4 ≤ i
  · rw [BitVec.getLsbD_shiftLeft, BitVec.getLsbD_shiftLeft]
    have hs : (r.val * 8 + i) % 32 - (4 - 4 * (l.val % 2)) < 32 := by omega
    have hb := bitcast_8_32_getLsbD_ix2 v bitcasts_S256x128_w8_S64x128_w32 (⟨r.val / 4, ha⟩ : Fin 64) m
      ((r.val * 8 + i) % 32 - (4 - 4 * (l.val % 2))) hs r (by show r.val = 4 * (r.val / 4) + _; omega)
    have hb' : (bitcast S64x128 32 v bitcasts_S256x128_w8_S64x128_w32 (ix2 (⟨r.val / 4, ha⟩ : Fin 64) m)).getLsbD
        ((r.val * 8 + i) % 32 - (4 - 4 * (l.val % 2))) = (v (ix2 r m)).getLsbD (i - (4 - 4 * (l.val % 2))) := by
      refine Eq.trans ?_ (hb.trans ?_)
      · congr 2
      · congr 1; omega
    rw [hb']
    have d1 : decide ((r.val * 8 + i) % 32 < 4 - 4 * (l.val % 2)) = false := decide_eq_false (by omega)
    have d2 : decide (i < 4 - 4 * (l.val % 2)) = false := decide_eq_false (by omega)
    rw [d1, d2, decide_eq_true hq, decide_eq_true hi]
  · rw [decide_eq_false h4, Bool.and_false, Bool.and_false]

/-- Entry (r, l) of the unpacked block is the half numbered `l % 2` of byte (r, l / 2 + off). -/
theorem unpack_apply (off : BitVec 32) (ho : off = 0#32 ∨ off = 64#32) (v : Vec Ideal S256x128 .i8) (r : Fin 256) (l m : Fin 128)
    (hm : m.val = l.val / 2 + off.toNat) :
    unpack (F := Ideal) off v (ix2 r l) = (((nib (v (ix2 r m)) (l.val % 2) : Int) : ℝ) : EReal) := by
  unfold unpack
  pointwise
  rw [byte_apply off ho v r l m hm, Ideal.ofBits_sixteenth_bf16]
  show (((upper (v (ix2 r m)) (l.val % 2)).toInt : ℝ) : EReal) * _ = _
  rw [upper_toInt _ _ (Nat.mod_lt _ (by decide)), ← EReal.coe_mul]
  congr 1
  push_cast
  ring

end Cert.Proof.Mat

end
-- ==== Proof.MatBlock.lean ====
/-
  Hand-written, untrusted. WHAT ONE GRID POINT OF THE MATMUL COMPUTES: the block of the result that a point stores, as one
  function of the blocks it reads. The scratch holds the unpacked weight block (`wval`), read back whole for each of the
  three row tiles; entry (i, n) of the stored block is the dot product of row i of the codes with column n of the unpacked
  weight, times the row's scale, times the column's scale (`yblk`).
-/
module

public import proofs.«01_k».proof.Proof.Unpack
public import proofs.«01_k».proof.Proof.Pieces
public import proofs.«01_k».proof.Proof.Gen.KernelIdeal.Frame
public import Idealize.ShloMosaic.Lib.Pipeline.ValueKit

@[expose] public section

noncomputable section

namespace Cert.Proof.Mat

open Cert.Proof.Pieces Idealize.ShloMosaic Idealize.SL.Sem Cert.KernelIdeal Cert.KernelIdeal.Gen

/-- Half of an output column's number: the packed column it comes from. -/
def halfCol (n : Fin 256) : Fin 128 := ⟨n.val / 2, by omega⟩

/-- The lane of an output column in its half of the tile. -/
def lane (n : Fin 256) : Fin 128 := ⟨n.val % 128, Nat.mod_lt _ (by decide)⟩

/-- The unpacked weight block. -/
def wval (x2 : Vec Ideal S2560x128 .i8) : Vec Ideal S2560x256 .fp8e4m3 := fun y =>
  (((nib (x2 (ix2 (y 0) (halfCol (y 1)))) ((y 1).val % 2) : Int) : ℝ) : EReal)

/-- The result block. -/
def yblk (x0 : Vec Ideal S1536x2560 .fp8e4m3) (x1 : Vec Ideal S1536x128 .f32) (x2 : Vec Ideal S2560x128 .i8) (x3 : Vec Ideal S1x256 .f32) :
    Vec Ideal S1536x256 .bf16 := fun y =>
  (((∑ k : Fin 2560, (x0 (ix2 (y 0) k) : EReal) * (wval x2 (ix2 k (y 1)) : EReal)) * (x1 (ix2 (y 0) (lane (y 1))) : EReal))
    * (x3 (ix2 0 (y 1)) : EReal) : EReal)

/-- One stored piece of the scratch is a block of the unpacked weight. -/
theorem piece_eq (off : BitVec 32) (ho : off = 0#32 ∨ off = 64#32) (x2 : Vec Ideal S2560x128 .i8) (r o : Nat)
    (hr : o = 2 * off.toNat) (inb : ∀ a, (![r, 0] : Fin 2 → Nat) a + S256x128.size a ≤ S2560x128.size a)
    (inb' : ∀ a, (![r, o] : Fin 2 → Nat) a + S256x128.size a ≤ S2560x256.size a) (x : S256x128.Idx) :
    unpack (F := Ideal) off (View.ld x2 (Rect.unit (s := S2560x128) ![r, 0] S256x128.size inb)) x
      = wval x2 ((Rect.unit (s := S2560x256) ![r, o] S256x128.size inb').emb x) := by
  obtain ⟨a, l, rfl⟩ : ∃ (a : Fin 256) (l : Fin 128), x = ix2 a l := ⟨x 0, x 1, by funext c; match c with | ⟨0, _⟩ => rfl | ⟨1, _⟩ => rfl⟩
  have hoff : off.toNat = 0 ∨ off.toNat = 64 := by rcases ho with rfl | rfl <;> decide
  have hm : l.val / 2 + off.toNat < 128 := by omega
  rw [unpack_apply off ho _ a l ⟨l.val / 2 + off.toNat, hm⟩ rfl]
  unfold wval
  have e0 : (((Rect.unit (s := S2560x256) ![r, o] S256x128.size inb').emb (ix2 a l)) 0 : Fin 2560).val = r + a.val := by
    rw [Rect.emb_apply]; show r + 1 * a.val = _; omega
  have e1 : (((Rect.unit (s := S2560x256) ![r, o] S256x128.size inb').emb (ix2 a l)) 1 : Fin 256).val = o + l.val := by
    rw [Rect.emb_apply]; show o + 1 * l.val = _; omega
  have ev : View.ld x2 (Rect.unit (s := S2560x128) ![r, 0] S256x128.size inb) (ix2 a ⟨l.val / 2 + off.toNat, hm⟩)
      = x2 (ix2 (((Rect.unit (s := S2560x256) ![r, o] S256x128.size inb').emb (ix2 a l)) 0)
          (halfCol (((Rect.unit (s := S2560x256) ![r, o] S256x128.size inb').emb (ix2 a l)) 1))) := by
    show x2 _ = x2 _
    congr 1
    funext c
    match c with
    | ⟨0, _⟩ => rfl
    | ⟨1, _⟩ => exact Fin.ext (by
        show 0 + 1 * (l.val / 2 + off.toNat) = (((Rect.unit (s := S2560x256) ![r, o] S256x128.size inb').emb (ix2 a l)) 1 : Fin 256).val / 2
        rw [e1]; omega)
  rw [ev, e1, show (o + l.val) % 2 = l.val % 2 by omega]

/-- The scratch read back whole, when each of its pieces is a block of the unpacked weight and they cover it. -/
theorem scratch_read {sig : RefSig} {κ : Kind} {sp : Space} (v : View sig κ sp S2560x256 .fp8e4m3) (x2 : Vec Ideal S2560x128 .i8)
    (L : List (View.Piece (Elt Ideal) S2560x256 .fp8e4m3)) (inb : ∀ a, (![0, 0] : Fin 2 → Nat) a + S2560x256.size a ≤ S2560x256.size a)
    (h : View.PiecesOf (wval x2) L) (hc : ∀ y, ∃ p ∈ L, y ∈ p.1.set) :
    v.readCov L (Rect.unit (s := S2560x256) ![0, 0] S2560x256.size inb).toLoadRect = wval x2 := by
  rw [View.readCov_eq_canon']
  funext j
  rw [View.canon_apply_of_pieces (wval x2) L h.mem _ (hc _)]
  congr 1
  funext c
  match c with
  | ⟨0, h⟩ => exact Fin.ext (by show 0 + 1 * (j ⟨0, h⟩).val = (j ⟨0, h⟩).val; omega)
  | ⟨1, h⟩ => exact Fin.ext (by show 0 + 1 * (j ⟨1, h⟩).val = (j ⟨1, h⟩).val; omega)

/-- One stored piece of the result, as the program computes it: lanes `o` to `o + 127` of a row tile. -/
def ytile {F : FTy → Type} [FloatOps F] (o : Nat) (hs : S512x256.Slices ![0, o] S512x128) (a : Vec F S512x2560 .fp8e4m3) (w : Vec F S2560x256 .fp8e4m3)
    (s : Vec F S512x128 .f32) (q : Vec F S1x128 .f32) : FVec F S512x128 .bf16 :=
  truncf .bf16 (mulf (mulf (extractStridedSlice S512x128 ![0, o]
      (matmul dot_S512x2560_S2560x256_S512x256_1_0_0_1_n_n none (shapeCast S512x2560 a shapeCasts_S512x2560_S512x2560) w (constant S512x256 .f32 0x00000000#32)) hs)
      (shapeCast S512x128 s shapeCasts_S512x128_S512x128))
    (broadcastTo S512x128 (shapeCast S1x128 q shapeCasts_S1x128_S1x128) broadcasts_S1x128_S512x128)) bitsLt_bf16_f32

theorem ytile_apply0 (a : Vec Ideal S512x2560 .fp8e4m3) (w : Vec Ideal S2560x256 .fp8e4m3)
    (s : Vec Ideal S512x128 .f32) (q : Vec Ideal S1x128 .f32) (i : Fin 512) (l : Fin 128) :
    ytile (F := Ideal) 0 slices_S512x256_o0_0_S512x128 a w s q (ix2 i l)
      = ((∑ k : Fin 2560, (a (ix2 i k) : EReal) * (w (ix2 k ⟨0 + l.val, by omega⟩) : EReal)) * (s (ix2 i l) : EReal)) * (q (ix2 0 l) : EReal) := by
  simp only [Nat.zero_add]
  pointwise [ytile]

theorem ytile_apply128 (a : Vec Ideal S512x2560 .fp8e4m3) (w : Vec Ideal S2560x256 .fp8e4m3)
    (s : Vec Ideal S512x128 .f32) (q : Vec Ideal S1x128 .f32) (i : Fin 512) (l : Fin 128) :
    ytile (F := Ideal) 128 slices_S512x256_o0_128_S512x128 a w s q (ix2 i l)
      = ((∑ k : Fin 2560, (a (ix2 i k) : EReal) * (w (ix2 k ⟨128 + l.val, by omega⟩) : EReal)) * (s (ix2 i l) : EReal)) * (q (ix2 0 l) : EReal) := by
  pointwise [ytile]

/-- Lanes `o` to `o + 127` of a row tile, `o` being 0 or 128, are a block of the result. -/
theorem ytile_eq (o r : Nat) (hs : S512x256.Slices ![0, o] S512x128) (ho : o = 0 ∨ o = 128)
    (x0 : Vec Ideal S1536x2560 .fp8e4m3) (x1 : Vec Ideal S1536x128 .f32) (x2 : Vec Ideal S2560x128 .i8) (x3 : Vec Ideal S1x256 .f32)
    (i0 : ∀ a, (![r, 0] : Fin 2 → Nat) a + S512x2560.size a ≤ S1536x2560.size a)
    (i1 : ∀ a, (![r, 0] : Fin 2 → Nat) a + S512x128.size a ≤ S1536x128.size a)
    (i3 : ∀ a, (![0, o] : Fin 2 → Nat) a + S1x128.size a ≤ S1x256.size a)
    (i4 : ∀ a, (![r, o] : Fin 2 → Nat) a + S512x128.size a ≤ S1536x256.size a) (x : S512x128.Idx) :
    ytile (F := Ideal) o hs (View.ld x0 (Rect.unit (s := S1536x2560) ![r, 0] S512x2560.size i0)) (wval x2)
        (View.ld x1 (Rect.unit (s := S1536x128) ![r, 0] S512x128.size i1)) (View.ld x3 (Rect.unit (s := S1x256) ![0, o] S1x128.size i3)) x
      = yblk x0 x1 x2 x3 ((Rect.unit (s := S1536x256) ![r, o] S512x128.size i4).emb x) := by
  obtain ⟨i, l, rfl⟩ : ∃ (i : Fin 512) (l : Fin 128), x = ix2 i l := ⟨x 0, x 1, by funext c; match c with | ⟨0, _⟩ => rfl | ⟨1, _⟩ => rfl⟩
  have hr : r + i.val < 1536 := by have := i4 0; have h : r + 512 ≤ 1536 := this; omega
  have hl : o + l.val < 256 := by omega
  have ey : ((Rect.unit (s := S1536x256) ![r, o] S512x128.size i4).emb (ix2 i l)) = ix2 (⟨r + i.val, hr⟩ : Fin 1536) (⟨o + l.val, hl⟩ : Fin 256) := by
    funext c
    match c with
    | ⟨0, _⟩ => exact Fin.ext (by show r + 1 * i.val = r + i.val; omega)
    | ⟨1, _⟩ => exact Fin.ext (by show o + 1 * l.val = o + l.val; omega)
  have ea : ∀ k : Fin 2560, View.ld x0 (Rect.unit (s := S1536x2560) ![r, 0] S512x2560.size i0) (ix2 i k) = x0 (ix2 (⟨r + i.val, hr⟩ : Fin 1536) k) := by
    intro k
    show x0 _ = x0 _
    congr 1; funext c
    match c with
    | ⟨0, _⟩ => exact Fin.ext (by show r + 1 * i.val = r + i.val; omega)
    | ⟨1, _⟩ => exact Fin.ext (by show 0 + 1 * k.val = k.val; omega)
  have es : View.ld x1 (Rect.unit (s := S1536x128) ![r, 0] S512x128.size i1) (ix2 i l) = x1 (ix2 (⟨r + i.val, hr⟩ : Fin 1536) (lane ⟨o + l.val, hl⟩)) := by
    show x1 _ = x1 _
    congr 1; funext c
    match c with
    | ⟨0, _⟩ => exact Fin.ext (by show r + 1 * i.val = r + i.val; omega)
    | ⟨1, _⟩ => exact Fin.ext (by show 0 + 1 * l.val = (o + l.val) % 128; omega)
  have eq : View.ld x3 (Rect.unit (s := S1x256) ![0, o] S1x128.size i3) (ix2 0 l) = x3 (ix2 0 (⟨o + l.val, hl⟩ : Fin 256)) := by
    show x3 _ = x3 _
    congr 1; funext c
    match c with
    | ⟨0, _⟩ => rfl
    | ⟨1, _⟩ => exact Fin.ext (by show o + 1 * l.val = o + l.val; omega)
  have hv := show ytile (F := Ideal) o hs (View.ld x0 (Rect.unit (s := S1536x2560) ![r, 0] S512x2560.size i0)) (wval x2)
        (View.ld x1 (Rect.unit (s := S1536x128) ![r, 0] S512x128.size i1)) (View.ld x3 (Rect.unit (s := S1x256) ![0, o] S1x128.size i3)) (ix2 i l)
      = ((∑ k : Fin 2560, (View.ld x0 (Rect.unit (s := S1536x2560) ![r, 0] S512x2560.size i0) (ix2 i k) : EReal) * (wval x2 (ix2 k ⟨o + l.val, hl⟩) : EReal))
        * (View.ld x1 (Rect.unit (s := S1536x128) ![r, 0] S512x128.size i1) (ix2 i l) : EReal))
        * (View.ld x3 (Rect.unit (s := S1x256) ![0, o] S1x128.size i3) (ix2 0 l) : EReal) from by
    rcases ho with rfl | rfl
    · exact ytile_apply0 _ _ _ _ i l
    · exact ytile_apply128 _ _ _ _ i l
  rw [hv, ey, es, eq]
  simp only [ea]
  rfl

set_option maxHeartbeats 4000000 in
/-- What the body leaves in the result's buffer. -/
theorem out_eq (c : Dev nD) (i : grid1.Coords) (arg1 : Memref sig .tc .vmem S1536x2560 .fp8e4m3) (harg1 : arg1.IsWhole) (arg2 : Memref sig .tc .vmem S1536x128 .f32) (harg2 : arg2.IsWhole) (arg3 : Memref sig .tc .vmem S2560x128 .i8) (harg3 : arg3.IsWhole) (arg4 : Memref sig .tc .vmem S1x256 .f32) (harg4 : arg4.IsWhole) (arg5 : Memref sig .tc .vmem S1536x256 .bf16) (harg5 : arg5.IsWhole) (arg6 : Memref sig .tc .vmem S2560x256 .fp8e4m3) (harg6 : arg6.IsWhole)
    (x0 : Vec Ideal S1536x2560 .fp8e4m3) (x1 : Vec Ideal S1536x128 .f32) (x2 : Vec Ideal S2560x128 .i8) (x3 : Vec Ideal S1x256 .f32) :
    out1_A_4 c i arg1 harg1 arg2 harg2 arg3 harg3 arg4 harg4 arg5 harg5 arg6 harg6 x0 x1 x2 x3 = yblk x0 x1 x2 x3 := by
  unfold out1_A_4
  rw [View.read_writes_eq_canon _ _ _ (cover1_A_4 c i arg1 harg1 arg2 harg2 arg3 harg3 arg4 harg4 arg5 harg5 arg6 harg6 x0 x1 x2 x3)]
  unfold kernelRun1_A
  dsimp only
  sl_unfold_words
  simp only [View.readAt_eq_ld, harg1.read_unread, harg2.read_unread, harg3.read_unread, harg4.read_unread]
  rw [scratch_read _ x2 _ _ ?hp ?hc]
  case hc => exact View.cover_of_tiledL _ S256x128.size (by sl_kernel_rfl)
  case hp =>
    have hi := fun r inb inb' => piece_eq 64#32 (.inr rfl) x2 r 128 rfl inb inb'
    have lo := fun r inb inb' => piece_eq 0#32 (.inl rfl) x2 r 0 rfl inb inb'
    exact ⟨hi 2304 _ (by decide), lo 2304 _ (by decide), hi 2048 _ (by decide), lo 2048 _ (by decide), hi 1792 _ (by decide), lo 1792 _ (by decide), hi 1536 _ (by decide), lo 1536 _ (by decide), hi 1280 _ (by decide), lo 1280 _ (by decide), hi 1024 _ (by decide), lo 1024 _ (by decide), hi 768 _ (by decide), lo 768 _ (by decide), hi 512 _ (by decide), lo 512 _ (by decide), hi 256 _ (by decide), lo 256 _ (by decide), hi 0 _ (by decide), lo 0 _ (by decide), trivial⟩
  refine canon_full (yblk x0 x1 x2 x3) _ ?_ (View.cover_of_tiledL _ S512x128.size (by sl_kernel_rfl))
  have hp := fun r o (h : o = 0 ∨ o = 128) i0 i1 i3 i4 x => (ytile_eq o r (by rcases h with rfl | rfl; exacts [slices_S512x256_o0_0_S512x128, slices_S512x256_o0_128_S512x128])
    h x0 x1 x2 x3 i0 i1 i3 i4 x).symm
  repeat' first
    | exact trivial
    | refine pieces_cons (hp _ _ (by decide) (by decide) (by decide) (by decide) (by decide)) ?_

end Cert.Proof.Mat

end
-- ==== Proof.MatValue.lean ====
/-
  Hand-written, untrusted. THE RESULT ARRAY of the matmul after all its grid points.
-/
module

public import proofs.«01_k».proof.Proof.MatBlock
public import Idealize.ShloMosaic.Lib.Pipeline.Value

@[expose] public section

set_option maxRecDepth 16384

noncomputable section

namespace Cert.Proof.Mat

open Idealize.ShloMosaic Idealize.SL.Sem Cert.KernelIdeal Cert.KernelIdeal.Gen Idealize.ShloMosaic.TcCoe

variable (V : (c : Dev nD) → (b : Ref sig .tc) → Buf (Elt Ideal) ((c : Thread nD τ).loc b))

/-- The packed column of an output column. -/
def packedCol (n : Fin 6912) : Fin 3456 := ⟨n.val / 2, by omega⟩

/-- The lane of an output column. -/
def laneOf (n : Fin 6912) : Fin 128 := ⟨n.val % 128, Nat.mod_lt _ (by decide)⟩

/-- One entry of the product: a row of codes times a column of the unpacked weight, times the two scales. -/
def cell (f : Fin 2560 → EReal) (w : Fin 2560 → Int) (s q : EReal) : EReal :=
  ((∑ k : Fin 2560, f k * (((w k : Int) : ℝ) : EReal)) * s) * q

/-- The result array of the matmul: the codes `f` times the unpacked weight, times the row's scale, times the column's. -/
def yval (f : Vec Ideal S1536x2560 .fp8e4m3) (s : Vec Ideal S1536x128 .f32) (w : Vec Ideal S2560x3456 .i8) (q : Vec Ideal S1x6912 .f32) :
    Vec Ideal S1536x6912 .bf16 := fun y =>
  cell (fun k => f (ix2 (y 0) k)) (fun k => nib (w (ix2 k (packedCol (y 1)))) ((y 1).val % 2)) (s (ix2 (y 0) (laneOf (y 1)))) (q (ix2 0 (y 1)))

/-- The blocks of the grid's points: the codes and the scales whole, 128 packed columns, 256 output columns. -/
theorem idx0 : ∀ t : Fin cfg1.N, win1_0.index t = ![0, 0] := (by decide +kernel : ∀ t : Fin grid1.N, win1_0.index t = ![0, 0])
theorem idx1 : ∀ t : Fin cfg1.N, win1_1.index t = ![0, 0] := (by decide +kernel : ∀ t : Fin grid1.N, win1_1.index t = ![0, 0])
theorem idx2 : ∀ t : Fin cfg1.N, win1_2.index t = ![0, t.val] := (by decide +kernel : ∀ t : Fin grid1.N, win1_2.index t = ![0, t.val])
theorem idx3 : ∀ t : Fin cfg1.N, win1_3.index t = ![0, t.val] := (by decide +kernel : ∀ t : Fin grid1.N, win1_3.index t = ![0, t.val])
theorem idx4 : ∀ t : Fin cfg1.N, win1_4.index t = ![0, t.val] := (by decide +kernel : ∀ t : Fin grid1.N, win1_4.index t = ![0, t.val])

/-- The whole array from its blocks. -/
theorem final_value (c : Dev nD) : (dat1 V c).arrAt 4 cfg1.N
    = yval (V c main_v30_1) (V c main_v30_3) (V c main_arg5) (V c main_v31) := by
  refine (dat1 V c).arrAt_eq_of_covers 4 _ (by decide +kernel) fun t hf y => ?_
  have hb : (dat1 V c).after 4 t = yblk (iblk1 V c 0 t) (iblk1 V c 1 t) (iblk1 V c 2 t) (iblk1 V c 3 t) := by
    rw [after1_4]; simp only [outsAt1, out_eq]
  blk_simp
  rw [hb]
  obtain ⟨a, n, rfl⟩ : ∃ (a : Fin 1536) (n : Fin 256), y = ix2 a n := ⟨y 0, y 1, by funext c; match c with | ⟨0, _⟩ => rfl | ⟨1, _⟩ => rfl⟩
  have ht : t.val < 27 := t.isLt
  have hn : t.val * 256 + n.val < 6912 := by omega
  have e4 : (win1_4.blk t).view.emb (ix2 a n) = ix2 a (⟨t.val * 256 + n.val, hn⟩ : Fin 6912) := by blk_ext [idx4]
  have e0 : ∀ k : Fin 2560, (win1_0.blk t).view.emb (ix2 a k) = ix2 a k := fun k => by blk_ext [idx0]
  have e1 : ∀ l : Fin 128, (win1_1.blk t).view.emb (ix2 a l) = ix2 a l := fun k => by blk_ext [idx1]
  have e2 : ∀ (k : Fin 2560), (win1_2.blk t).view.emb (ix2 k (halfCol n)) = ix2 k (packedCol ⟨t.val * 256 + n.val, hn⟩) := fun k => by
    have : (packedCol ⟨t.val * 256 + n.val, hn⟩).val = t.val * 128 + (halfCol n).val := by
      show (t.val * 256 + n.val) / 2 = t.val * 128 + n.val / 2; omega
    blk_ext [idx2]
  have e3 : (win1_3.blk t).view.emb (ix2 0 n) = ix2 0 (⟨t.val * 256 + n.val, hn⟩ : Fin 6912) := by blk_ext [idx3]
  have el : laneOf ⟨t.val * 256 + n.val, hn⟩ = lane n := Fin.ext (by show (t.val * 256 + n.val) % 128 = n.val % 128; omega)
  have em : (t.val * 256 + n.val) % 2 = n.val % 2 := by omega
  rw [e4]
  show cell (fun k => iblk1 V c 0 t (ix2 a k)) (fun k => nib (iblk1 V c 2 t (ix2 k (halfCol n))) (n.val % 2))
      (iblk1 V c 1 t (ix2 a (lane n))) (iblk1 V c 3 t (ix2 0 n))
    = cell (fun k => V c main_v30_1 (ix2 a k)) (fun k => nib (V c main_arg5 (ix2 k (packedCol ⟨t.val * 256 + n.val, hn⟩))) ((t.val * 256 + n.val) % 2))
      (V c main_v30_3 (ix2 a (laneOf ⟨t.val * 256 + n.val, hn⟩))) (V c main_v31 (ix2 0 ⟨t.val * 256 + n.val, hn⟩))
  blk_simp [iblk1]
  simp only [e0, e1, e2, e3, el, em]

end Cert.Proof.Mat
-- ==== Proof.KernelRun.lean ====
/-
  Hand-written, untrusted. THE KERNEL'S RUN AND ITS THREE RESULTS: the run ends with each result at what the last host operations
  leave (`run_results`, the generated frame's proof with three more buffers read), and each of those entry by entry.
-/
module

public import proofs.«01_k».proof.Proof.KernelRow
public import proofs.«01_k».proof.Proof.MatValue

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the theorem's implicit arguments are found by unfolding plain definitions in a metavariable's type
set_option backward.isDefEq.respectTransparency.types false in
/-- Every run of the kernel ends with its results at the contents of the last boundary and its arguments unchanged. -/
theorem run_results : θ_run defs (onTc (τ := τ) (main (F := F))) ⟨m, fun _ => 0, ρ⟩ (fun r => ∀ c : Dev nD,
      r.2.mem ((c.tc : Thread nD τ).loc main_v33) = W5 m ρ c (Proc.devRef .tc main_v33)
      ∧ r.2.mem ((c.tc : Thread nD τ).loc main_v34) = W5 m ρ c (Proc.devRef .tc main_v34)
      ∧ r.2.mem ((c.tc : Thread nD τ).loc main_v35) = W5 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v33 (by decide)), h c _ (mem_uc main_v34 (by decide)), h c _ (mem_uc main_v35 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Gen

namespace Cert.Proof.Host

open Cert.Proof.Plain Cert.Proof.Tra Cert.Proof.Quant Idealize.ShloMosaic Idealize.SL.Sem Cert.KernelIdeal Cert.KernelIdeal.Gen Idealize.ShloMosaic.TcCoe

variable (m : (ℓ : Loc nD τ sig) → Buf (Elt Ideal) ℓ) (ρ : Dev nD → PrngReg)

theorem W2_codes (c : Dev nD) : W2 m ρ c (Proc.devRef .tc main_v30_0) = arr5 (V1 m ρ) c := (W2_arr m ρ c 5).trans (final5 (V1 m ρ) c)
theorem W2_f8 (c : Dev nD) : W2 m ρ c (Proc.devRef .tc main_v30_1) = arr6 (V1 m ρ) c := (W2_arr m ρ c 6).trans (final6 (V1 m ρ) c)
theorem W2_scales (c : Dev nD) : W2 m ρ c (Proc.devRef .tc main_v30_2) = arr7 (V1 m ρ) c := (W2_arr m ρ c 7).trans (final7 (V1 m ρ) c)
theorem W2_srep (c : Dev nD) : W2 m ρ c (Proc.devRef .tc main_v30_3) = arr8 (V1 m ρ) c := (W2_arr m ρ c 8).trans (final8 (V1 m ρ) c)

theorem V3_f8 (c : Dev nD) : V3 m ρ c main_v30_1 = arr6 (V1 m ρ) c := (W3_of m ρ c main_v30_1 (by decide)).trans (W2_f8 m ρ c)
theorem V3_srep (c : Dev nD) : V3 m ρ c main_v30_3 = arr8 (V1 m ρ) c := (W3_of m ρ c main_v30_3 (by decide)).trans (W2_srep m ρ c)
theorem V3_w (c : Dev nD) : V3 m ρ c main_arg5 = m ((c : Thread nD τ).loc main_arg5) := W3_args m ρ c main_arg5 (by decide)
theorem V3_ws (c : Dev nD) : V3 m ρ c main_v31 = shapeCast S1x6912 (m ((c : Thread nD τ).loc main_arg6)) shapeCasts_S6912_S1x6912 := by
  show StableHlo.after hostOps1 (W2 m ρ c) (Proc.devRef .tc main_v31) = _
  after_results_simp
  rw [show W2 m ρ c (Proc.devRef .tc main_arg6) = m ((c : Thread nD τ).loc main_arg6) from W2_args m ρ c main_arg6 (by decide)]
  rfl

/-- The three results before and after their reshapes. -/
theorem W5_y (c : Dev nD) : W5 m ρ c (Proc.devRef .tc main_v33)
    = shapeCast S6x256x6912 (Mat.yval (arr6 (V1 m ρ) c) (arr8 (V1 m ρ) c) (m ((c : Thread nD τ).loc main_arg5))
        (shapeCast S1x6912 (m ((c : Thread nD τ).loc main_arg6)) shapeCasts_S6912_S1x6912)) shapeCasts_S1536x6912_S6x256x6912 := by
  have h : W4 m ρ c (Proc.devRef .tc main_v32) = _ := (W4_arr m ρ c 4).trans (Mat.final_value (V3 m ρ) c)
  rw [V3_f8, V3_srep, V3_w, V3_ws] at h
  show StableHlo.after hostOps2 (W4 m ρ c) (Proc.devRef .tc main_v33) = _
  after_results_simp
  rw [h]
  rfl
theorem W5_codes (c : Dev nD) : W5 m ρ c (Proc.devRef .tc main_v34) = shapeCast S6x256x2560 (arr5 (V1 m ρ) c) shapeCasts_S1536x2560_S6x256x2560 := by
  have h : W4 m ρ c (Proc.devRef .tc main_v30_0) = _ :=
    (W4_of_ne m ρ c main_v30_0 (by decide)).trans ((W3_of m ρ c main_v30_0 (by decide)).trans (W2_codes m ρ c))
  show StableHlo.after hostOps2 (W4 m ρ c) (Proc.devRef .tc main_v34) = _
  after_results_simp
  rw [h]
  rfl
theorem W5_scales (c : Dev nD) : W5 m ρ c (Proc.devRef .tc main_v35) = shapeCast S6x256 (arr7 (V1 m ρ) c) shapeCasts_S6x1x256_S6x256 := by
  have h : W4 m ρ c (Proc.devRef .tc main_v30_2) = _ :=
    (W4_of_ne m ρ c main_v30_2 (by decide)).trans ((W3_of m ρ c main_v30_2 (by decide)).trans (W2_scales m ρ c))
  show StableHlo.after hostOps2 (W4 m ρ c) (Proc.devRef .tc main_v35) = _
  after_results_simp
  rw [h]
  rfl

/-- The row of a batch's token. -/
def tokrow (b : Fin 6) (s : Fin 256) : Fin 1536 := ⟨b.val * 256 + s.val, by omega⟩

/-- A token's scale, from the arguments. -/
abbrev kscale (c : Dev nD) (b : Fin 6) (s : Fin 256) : EReal :=
  pscale (fun k => m ((c : Thread nD τ).loc main_arg0) (ix3 b s k)) (fun k => m ((c : Thread nD τ).loc main_arg1) (ix1 k))
    (fun i j => m ((c : Thread nD τ).loc main_arg2) (ix2 i j)) (fun i j => m ((c : Thread nD τ).loc main_arg3) (ix2 i j))
    (m ((c : Thread nD τ).loc main_arg4) ix0)

/-- A token's codes, from the arguments. -/
abbrev kcode (c : Dev nD) (b : Fin 6) (s : Fin 256) (k : Fin 2560) : EReal :=
  pcode (fun k => m ((c : Thread nD τ).loc main_arg0) (ix3 b s k)) (fun k => m ((c : Thread nD τ).loc main_arg1) (ix1 k))
    (fun i j => m ((c : Thread nD τ).loc main_arg2) (ix2 i j)) (fun i j => m ((c : Thread nD τ).loc main_arg3) (ix2 i j))
    (m ((c : Thread nD τ).loc main_arg4) ix0) k

theorem x_apply (x : Vec Ideal S6x256x2560 .bf16) (b : Fin 6) (s : Fin 256) (k : Fin 2560) :
    shapeCast S1536x2560 x shapeCasts_S6x256x2560_S1536x2560 (ix2 (tokrow b s) k) = x (ix3 b s k) := by
  pointwise []
  have e1 : (tokrow b s).val / 256 = b.val := by show (b.val * 256 + s.val) / 256 = b.val; omega
  have e2 : (tokrow b s).val % 256 = s.val := by show (b.val * 256 + s.val) % 256 = s.val; omega
  simp only [e1, e2]
theorem cs_apply (g : Vec Ideal S2560 .f32) (k : Fin 2560) : shapeCast S1x2560 g shapeCasts_S2560_S1x2560 (ix2 0 k) = g (ix1 k) := by
  pointwise []
theorem ws_apply (g : Vec Ideal S6912 .f32) (k : Fin 6912) : shapeCast S1x6912 g shapeCasts_S6912_S1x6912 (ix2 0 k) = g (ix1 k) := by
  pointwise []
theorem clip_apply (g : Vec Ideal S_ .f32) : shapeCast S1 g shapeCasts_S_S1 (ix1 0) = g ix0 := by
  pointwise []

/-- The transformed row, its scale and its codes, of the arrays as launched. -/
theorem rowz_args (x : Vec Ideal S6x256x2560 .bf16) (g : Vec Ideal S2560 .f32) (p1 : FVec Ideal S40x40 .bf16) (p2 : FVec Ideal S64x64 .bf16)
    (b : Fin 6) (s : Fin 256) : rowz (fun k => shapeCast S1536x2560 x shapeCasts_S6x256x2560_S1536x2560 (ix2 (tokrow b s) k))
        (shapeCast S1x2560 g shapeCasts_S2560_S1x2560) (spread1 p2) (spread2 p1)
      = zrow (fun k => x (ix3 b s k)) (fun k => g (ix1 k)) (fun i j => p1 (ix2 i j)) (fun i j => p2 (ix2 i j)) := by
  funext κ
  rw [rowz_plain, funext fun k => x_apply x b s k, funext fun k => cs_apply g k]

theorem gscale_plain (c : Dev nD) (b : Fin 6) (s : Fin 256) : gscale (V1 m ρ) c (tokrow b s) = kscale m c b s := by
  show rowscale (fun k => V1 m ρ c main_v0 (ix2 (tokrow b s) k)) (V1 m ρ c main_v28) (V1 m ρ c main_v13) (V1 m ρ c main_v27) (V1 m ρ c main_v29) = _
  rw [V_x m ρ c, V_cs m ρ c, V_l1 m ρ c, V_l2 m ρ c, V_clip m ρ c]
  exact congrArg₂ (fun u v => qscale u (qmax v)) (clip_apply _) (rowz_args _ _ _ _ b s)

theorem gcode_plain (c : Dev nD) (b : Fin 6) (s : Fin 256) (k : Fin 2560) : gcode (V1 m ρ) c (tokrow b s) k = kcode m c b s k := by
  have h := gscale_plain m ρ c b s
  show qcode (rowz (fun k => V1 m ρ c main_v0 (ix2 (tokrow b s) k)) (V1 m ρ c main_v28) (V1 m ρ c main_v13) (V1 m ρ c main_v27) k)
    (gscale (V1 m ρ) c (tokrow b s)) = qcode _ (kscale m c b s)
  rw [h, V_x m ρ c, V_cs m ρ c, V_l1 m ρ c, V_l2 m ρ c]
  exact congrArg (fun u => qcode (u k) (kscale m c b s)) (rowz_args _ _ _ _ b s)

/-- The scales, entry by entry. -/
theorem scales_apply (c : Dev nD) (b : Fin 6) (s : Fin 256) : W5 m ρ c (Proc.devRef .tc main_v35) (ix2 b s) = kscale m c b s := by
  rw [W5_scales, ← gscale_plain m ρ]
  pointwise []
  rfl
/-- The codes, entry by entry. -/
theorem codes_apply (c : Dev nD) (b : Fin 6) (s : Fin 256) (k : Fin 2560) :
    W5 m ρ c (Proc.devRef .tc main_v34) (ix3 b s k) = Ideal.fptosi 8 (kcode m c b s k) := by
  rw [W5_codes, ← gcode_plain m ρ]
  pointwise []
  rfl
/-- The product, entry by entry. -/
theorem y_apply (c : Dev nD) (b : Fin 6) (s : Fin 256) (n : Fin 6912) : W5 m ρ c (Proc.devRef .tc main_v33) (ix3 b s n)
    = Mat.cell (kcode m c b s) (fun k => Mat.nib (m ((c : Thread nD τ).loc main_arg5) (ix2 k (Mat.packedCol n))) (n.val % 2))
        (kscale m c b s) (m ((c : Thread nD τ).loc main_arg6) (ix1 n)) := by
  rw [W5_y, ← gscale_plain m ρ, ← funext (gcode_plain m ρ c b s)]
  pointwise []
  show Mat.cell _ _ _ (shapeCast S1x6912 (m ((c : Thread nD τ).loc main_arg6)) shapeCasts_S6912_S1x6912 (ix2 0 n)) = _
  exact congrArg (Mat.cell _ _ _) (ws_apply _ n)

end Cert.Proof.Host

end
-- ==== Proof.RefHost.lean ====
/-
  Hand-written, untrusted. WHAT THE REFERENCE'S HOST OPERATIONS LEAVE, entry by entry: the transformed activations, the unpacked
  weight, the reshaped clip and weight scales.
-/
module

public import proofs.«01_k».proof.Proof.Plain
public import proofs.«01_k».proof.Proof.MatValue
public import proofs.«01_k».proof.Proof.Gen.ReferenceIdeal.Frame
public import Idealize.ShloMosaic.Lib.Pipeline.Value
public import Idealize.ShloMosaic.Lib.Pointwise
public import Idealize.ShloMosaic.Lib.IdealHost

@[expose] public section

set_option maxRecDepth 16384

noncomputable section

namespace Cert.Proof.Ref

open Cert.Proof.Plain Idealize.ShloMosaic Idealize.SL.Sem Cert.ReferenceIdeal Cert.ReferenceIdeal.Gen Idealize.ShloMosaic.TcCoe

variable (m : (ℓ : Loc nD τ sig) → Buf (Elt Ideal) ℓ)

/-- The activations times the channel scales, each token as a 40 × 64 matrix. -/
def scaled (x : FVec Ideal S6x256x2560 .bf16) (g : FVec Ideal S2560 .f32) : FVec Ideal S6x256x40x64 .bf16 :=
  shapeCast S6x256x40x64 (truncf .bf16 (mulf (extf .f32 x bitsLt_bf16_f32)
    (broadcastInDim S6x256x2560 ![0, 1, 2] bcast_S1x1x2560_S6x256x2560_0_1_2 (broadcastInDim S1x1x2560 ![2] bcast_S2560_S1x1x2560_2 g)))
    bitsLt_bf16_f32) shapeCasts_S6x256x2560_S6x256x40x64

/-- Times the 64 × 64 matrix on the right. -/
def right (x : FVec Ideal S6x256x40x64 .bf16) (p2 : FVec Ideal S64x64 .bf16) : FVec Ideal S6x256x40x64 .bf16 :=
  truncf .bf16 (Host.dotGeneral dot_S6x256x40x64_S64x64_S6x256x40x64_3_0_012_1_n_n none x p2 : FVec Ideal S6x256x40x64 .f32) bitsLt_bf16_f32

/-- Times the 40 × 40 matrix, transposed, on the left. -/
def left (x : FVec Ideal S6x256x40x64 .bf16) (p1 : FVec Ideal S40x40 .bf16) : FVec Ideal S1536x2560 .f32 :=
  shapeCast S1536x2560 (transpose S6x256x40x64 [0, 1, 3, 2]
    (Host.dotGeneral dot_S6x256x40x64_S40x40_S6x256x64x40_2_0_013_1_n_n none x p1 : FVec Ideal S6x256x64x40 .f32)
    transposes_S6x256x64x40_S6x256x40x64_0_1_3_2) shapeCasts_S6x256x40x64_S1536x2560

theorem V_z (c : Dev nD) : V m c main_v10 = left (right (scaled (m ((c : Thread nD τ).loc main_arg0)) (m ((c : Thread nD τ).loc main_arg1)))
    (m ((c : Thread nD τ).loc main_arg3))) (m ((c : Thread nD τ).loc main_arg2)) := by
  show StableHlo.after hostOps0 _ (Proc.devRef .tc main_v10) = _
  after_results_simp
  rfl
theorem V_clip (c : Dev nD) : V m c main_v32 = shapeCast S1x1 (m ((c : Thread nD τ).loc main_arg4)) shapeCasts_S_S1x1 := by
  show StableHlo.after hostOps0 _ (Proc.devRef .tc main_v32) = _
  after_results_simp
  rfl

theorem scaled_apply (x : FVec Ideal S6x256x2560 .bf16) (g : FVec Ideal S2560 .f32) (b : Fin 6) (s : Fin 256) (i : Fin 40) (j : Fin 64) :
    scaled x g (ix4 b s i j) = x (ix3 b s (place i j)) * g (ix1 (place i j)) := by
  pointwise [scaled]
  rfl
theorem right_apply (x : FVec Ideal S6x256x40x64 .bf16) (p2 : FVec Ideal S64x64 .bf16) (b : Fin 6) (s : Fin 256) (i : Fin 40) (k : Fin 64) :
    right x p2 (ix4 b s i k) = ∑ j : Fin 64, x (ix4 b s i j) * p2 (ix2 j k) := by
  pointwise [right]
theorem left_apply (x : FVec Ideal S6x256x40x64 .bf16) (p1 : FVec Ideal S40x40 .bf16) (r : Fin 1536) (k : Fin 2560) :
    left x p1 (ix2 r k) = ∑ i : Fin 40, x (ix4 ⟨r.val / 256, by omega⟩ ⟨r.val % 256, by omega⟩ i ⟨k.val % 64, by omega⟩) * p1 (ix2 i ⟨k.val / 64, by omega⟩) := by
  pointwise [left]

/-- The transformed activations are the plain sums. -/
theorem z_apply (x : FVec Ideal S6x256x2560 .bf16) (g : FVec Ideal S2560 .f32) (p1 : FVec Ideal S40x40 .bf16) (p2 : FVec Ideal S64x64 .bf16)
    (r : Fin 1536) (k : Fin 2560) : left (right (scaled x g) p2) p1 (ix2 r k)
      = zrow (fun k => x (ix3 ⟨r.val / 256, by omega⟩ ⟨r.val % 256, by omega⟩ k)) (fun k => g (ix1 k)) (fun i j => p1 (ix2 i j)) (fun i j => p2 (ix2 i j)) k := by
  simp only [left_apply, right_apply, scaled_apply]
  rfl

/-- A four-bit number read as signed: eight and above stand for negative ones. -/
def field (v : IVec S2560x3456 32) : IVec S2560x3456 32 :=
  subi v (muli (broadcastInDim S2560x3456 ![] bcast_S_S2560x3456 (constantI S_ 32 16#32))
    (extui 32 (cmpi .sge v (broadcastInDim S2560x3456 ![] bcast_S_S2560x3456 (constantI S_ 32 8#32))) natLt_1_32))

/-- The unpacked weight: the low half of each byte, then the high half. -/
def wfull (b : IVec S2560x3456 8) : IVec S2560x6912 32 :=
  have v : IVec S2560x3456 32 := extui 32 b natLt_8_32
  shapeCast S2560x6912 (concatenate S2560x3456x2 2
    [⟨S2560x3456x1, broadcastInDim S2560x3456x1 ![0, 1] bcast_S2560x3456_S2560x3456x1_0_1
        (field (andi v (broadcastInDim S2560x3456 ![] bcast_S_S2560x3456 (constantI S_ 32 15#32))))⟩,
     ⟨S2560x3456x1, broadcastInDim S2560x3456x1 ![0, 1] bcast_S2560x3456_S2560x3456x1_0_1
        (field (Host.shrsi v (broadcastInDim S2560x3456 ![] bcast_S_S2560x3456 (constantI S_ 32 4#32))))⟩]
    concatenates_S2560x3456x1_S2560x3456x1_S2560x3456x2_d2) shapeCasts_S2560x3456x2_S2560x6912

theorem V_w (c : Dev nD) : V m c main_v31 = wfull (m ((c : Thread nD τ).loc main_arg5)) := by
  show StableHlo.after hostOps0 _ (Proc.devRef .tc main_v31) = _
  after_results_simp
  rfl

theorem V_ws (c : Dev nD) : V m c main_v33 = shapeCast S1x6912 (m ((c : Thread nD τ).loc main_arg6)) shapeCasts_S6912_S1x6912 := by
  show StableHlo.after hostOps0 _ (Proc.devRef .tc main_v33) = _
  after_results_simp
  rfl

open Cert.Proof.Mat (nib cell packedCol laneOf yval)

/-- The two halves of a byte as the reference computes them. -/
theorem field_low (b : BitVec 8) :
    (IntOp.subi (IntOp.andi (BitVec.setWidth 32 b) 15#32) (IntOp.muli 16#32 (BitVec.setWidth 32
      (IntOp.cmpi .sge (IntOp.andi (BitVec.setWidth 32 b) 15#32) 8#32)))).toInt = nib b 0 := by
  revert b; decide +kernel

theorem field_high (b : BitVec 8) :
    (IntOp.subi (IntOp.shrsi .host (BitVec.setWidth 32 b) 4#32) (IntOp.muli 16#32 (BitVec.setWidth 32
      (IntOp.cmpi .sge (IntOp.shrsi .host (BitVec.setWidth 32 b) 4#32) 8#32)))).toInt = nib b 1 := by
  revert b; decide +kernel

/-- Column `n` of the unpacked weight is the half numbered `n % 2` of packed column `n / 2`. -/
theorem wfull_apply (b : IVec S2560x3456 8) (k : Fin 2560) (n : Fin 6912) :
    (wfull b (ix2 k n)).toInt = nib (b (ix2 k (packedCol n))) (n.val % 2) := by
  pointwise [wfull, field]
  split
  · have hp : 0 = n.val % 2 := by omega
    exact (field_low _).trans (congrArg (nib _) hp)
  · have hp : 1 = n.val % 2 := by omega
    exact (field_high _).trans (congrArg (nib _) hp)

end Cert.Proof.Ref

end
-- ==== Proof.RefPay.lean ====
/-
  Hand-written, untrusted. THE VALUES OF THE REFERENCE'S ONE BODY, entry by entry.
-/
module

public import proofs.«01_k».proof.Proof.RefHost

@[expose] public section

set_option maxRecDepth 16384

noncomputable section

namespace Cert.Proof.Ref

open Cert.Proof.Plain Cert.Proof.Quant Idealize.ShloMosaic Idealize.SL.Sem Cert.ReferenceIdeal Cert.ReferenceIdeal.Gen Idealize.ShloMosaic.TcCoe
open Cert.Proof.Mat (nib cell packedCol)

variable (m : (ℓ : Loc nD τ sig) → Buf (Elt Ideal) ℓ) (ρ : Dev nD → PrngReg)

/-- The body's pieces at an index: a row's largest magnitude, the clip in every row, a row's scale in every column, the product. -/
theorem amax_apply (z : Vec Ideal S1536x2560 .f32) (r : Fin 1536) :
    shapeCast S1536x1 (multiReduction .maximumf [1] S1536 (absf (k0_pay1 (F := Ideal) z)) 0xFF800000#32 reduces_S1536x2560_S1536 (.inl rfl) rfl : FVec Ideal S1536 .f32)
      shapeCasts_S1536_S1536x1 (ix2 r 0) = qmax fun k => z (ix2 r k) := by
  pointwise [k0_pay1]
  rfl
theorem clip_rows (cl : Vec Ideal S1x1 .f32) (r : Fin 1536) :
    broadcastTo S1536x1 (logistic (shapeCast S1x1 cl shapeCasts_S1x1_S1x1) : FVec Ideal S1x1 .f32) broadcasts_S1x1_S1536x1 (ix2 r 0) = Ideal.logistic (cl (ix2 0 0)) := by
  pointwise []
theorem scale_cols (s : FVec Ideal S1536x1 .f32) (r : Fin 1536) (k : Fin 2560) :
    broadcastTo S1536x2560 s broadcasts_S1536x1_S1536x2560 (ix2 r k) = s (ix2 r 0) := by
  pointwise []
theorem scale_outs (s : FVec Ideal S1536x1 .f32) (r : Fin 1536) (n : Fin 6912) :
    broadcastTo S1536x6912 s broadcasts_S1536x1_S1536x6912 (ix2 r n) = s (ix2 r 0) := by
  pointwise []
theorem wscale_outs (q : Vec Ideal S1x6912 .f32) (r : Fin 1536) (n : Fin 6912) :
    broadcastTo S1536x6912 (shapeCast S1x6912 q shapeCasts_S1x6912_S1x6912) broadcasts_S1x6912_S1536x6912 (ix2 r n) = q (ix2 0 n) := by
  pointwise []
theorem prod_apply (f : IVec S1536x2560 8) (w : Vec Ideal S2560x6912 .i32) (r : Fin 1536) (n : Fin 6912) :
    (matmul dot_S1536x2560_S2560x6912_S1536x6912_1_0_0_1_n_n none (truncf .fp8e4m3 (sitofp .f32 f : FVec Ideal S1536x2560 .f32) bitsLt_fp8e4m3_f32)
      (truncf .fp8e4m3 (sitofp .f32 (shapeCast S2560x6912 w shapeCasts_S2560x6912_S2560x6912) : FVec Ideal S2560x6912 .f32) bitsLt_fp8e4m3_f32)
      (constant S1536x6912 .f32 0x00000000#32) : FVec Ideal S1536x6912 .f32) (ix2 r n)
      = ∑ k : Fin 2560, (((f (ix2 r k)).toInt : ℝ) : EReal) * ((((w (ix2 k n) : BitVec 32).toInt : ℤ) : ℝ) : EReal) := by
  pointwise []
  rfl

/-- The scale of a largest magnitude `A` at a clip factor `B`; a code; a product times two scales: operation by operation, at an index. -/
theorem scale_of (A B : FVec Ideal S1536x1 .f32) (i : S1536x1.Idx) :
    select (cmpf .oeq A (broadcast S1536x1 (Scalar.ofBits .f32 0x00000000#32))) (broadcast S1536x1 (Scalar.ofBits .f32 0x3F800000#32))
      (divf (mulf B A) (broadcast S1536x1 (Scalar.ofBits .f32 0x40E00000#32))) i
      = if (A i : EReal) = 0 then (1 : EReal) else Ideal.div (B i * A i) (Ideal.ofBits FTy.f32 0x40E00000#32) := by
  pointwise []
theorem code_of (Z S : FVec Ideal S1536x2560 .f32) (i : S1536x2560.Idx) :
    fptosi 8 (minimumf (broadcast S1536x2560 (Scalar.sitofp .f32 7#32)) (maximumf (broadcast S1536x2560 (Scalar.sitofp .f32 4294967289#32)) (roundeven (divf Z S)))) i
      = Ideal.fptosi 8 (qcode (Z i) (S i)) := by
  have e1 : (Scalar.sitofp .f32 4294967289#32 : Ideal .f32) = (((-7 : ℤ) : ℝ) : EReal) := by
    show ((((4294967289#32 : BitVec 32).toInt : ℤ) : ℝ) : EReal) = _
    rfl
  have e2 : (Scalar.sitofp .f32 7#32 : Ideal .f32) = (((7 : ℤ) : ℝ) : EReal) := by
    show ((((7#32 : BitVec 32).toInt : ℤ) : ℝ) : EReal) = _
    rfl
  rw [e1, e2]
  unfold qcode
  rw [seven, minus_seven]
  rfl
theorem out_of (A B C : FVec Ideal S1536x6912 .f32) (i : S1536x6912.Idx) :
    truncf .bf16 (mulf (mulf A B) C) bitsLt_bf16_f32 i = (A i * B i * C i : EReal) := rfl

/-- The body's three values at an index: a row's scale, a value's code, an output. -/
theorem pay2_apply (z : Vec Ideal S1536x2560 .f32) (cl : Vec Ideal S1x1 .f32) (r : Fin 1536) :
    k0_pay2 (F := Ideal) z cl (ix2 r 0) = qscale (cl (ix2 0 0)) (qmax fun k => z (ix2 r k)) := by
  unfold k0_pay2
  refine (scale_of _ _ _).trans ?_
  rw [amax_apply, clip_rows]
  rfl
theorem pay3_apply (z : Vec Ideal S1536x2560 .f32) (cl : Vec Ideal S1x1 .f32) (r : Fin 1536) (k : Fin 2560) :
    k0_pay3 (F := Ideal) z cl (ix2 r k) = Ideal.fptosi 8 (qcode (z (ix2 r k)) (qscale (cl (ix2 0 0)) (qmax fun k => z (ix2 r k)))) := by
  have h := (scale_cols (k0_pay2 (F := Ideal) z cl) r k).trans (pay2_apply z cl r)
  have hz : k0_pay1 (F := Ideal) z (ix2 r k) = z (ix2 r k) := by pointwise [k0_pay1]
  unfold k0_pay3
  refine (code_of _ _ _).trans ?_
  rw [h, hz]
theorem pay4_apply (z : Vec Ideal S1536x2560 .f32) (cl : Vec Ideal S1x1 .f32) (w : Vec Ideal S2560x6912 .i32) (q : Vec Ideal S1x6912 .f32) (r : Fin 1536) (n : Fin 6912) :
    k0_pay4 (F := Ideal) z cl w q (ix2 r n) = cell (fun k => qcode (z (ix2 r k)) (qscale (cl (ix2 0 0)) (qmax fun k => z (ix2 r k))))
      (fun k => (w (ix2 k n) : BitVec 32).toInt) (qscale (cl (ix2 0 0)) (qmax fun k => z (ix2 r k))) (q (ix2 0 n)) := by
  have hA := prod_apply (k0_pay3 (F := Ideal) z cl) w r n
  have hB := (scale_outs (k0_pay2 (F := Ideal) z cl) r n).trans (pay2_apply z cl r)
  have hC := wscale_outs q r n
  unfold k0_pay4
  refine (out_of _ _ _ _).trans ?_
  rw [hA, hB, hC]
  simp only [pay3_apply, code_back]
  rfl

end Cert.Proof.Ref

end
-- ==== Proof.RefRun.lean ====
/-
  Hand-written, untrusted. THE REFERENCE'S RUN: its one body reads whole arrays and writes whole arrays, and the last host operations reshape them.
-/
module

public import proofs.«01_k».proof.Proof.RefPay

@[expose] public section

set_option maxRecDepth 16384

noncomputable section

namespace Cert.Proof.Ref

open Cert.Proof.Plain Cert.Proof.Quant Idealize.ShloMosaic Idealize.SL.Sem Cert.ReferenceIdeal Cert.ReferenceIdeal.Gen Idealize.ShloMosaic.TcCoe
open Cert.Proof.Mat (nib cell packedCol)

variable (m : (ℓ : Loc nD τ sig) → Buf (Elt Ideal) ℓ) (ρ : Dev nD → PrngReg)

/-- The one grid point. -/
def t₀ : Fin cfg0.N := ⟨0, by decide⟩

theorem i0 (c : Dev nD) : iblk m c 0 t₀ = V m c main_v10 := funext fun x => by
  show V m c main_v10 ((win0_0.blk t₀).view.emb x) = V m c main_v10 x
  congr 1; blk_ext [show win0_0.index t₀ = ![0, 0] from by decide]
theorem i1 (c : Dev nD) : iblk m c 1 t₀ = V m c main_v32 := funext fun x => by
  show V m c main_v32 ((win0_1.blk t₀).view.emb x) = V m c main_v32 x
  congr 1; blk_ext [show win0_1.index t₀ = ![0, 0] from by decide]
theorem i2 (c : Dev nD) : iblk m c 2 t₀ = V m c main_v31 := funext fun x => by
  show V m c main_v31 ((win0_2.blk t₀).view.emb x) = V m c main_v31 x
  congr 1; blk_ext [show win0_2.index t₀ = ![0, 0] from by decide]
theorem i3 (c : Dev nD) : iblk m c 3 t₀ = V m c main_v33 := funext fun x => by
  show V m c main_v33 ((win0_3.blk t₀).view.emb x) = V m c main_v33 x
  congr 1; blk_ext [show win0_3.index t₀ = ![0, 0] from by decide]

theorem hz : (![0, 0] : Fin 2 → Nat) = fun _ => 0 := funext fun a => by fin_cases a <;> rfl

theorem one_point (t : Fin cfg0.N) : t = t₀ := Fin.ext (by have := t.isLt; change t.val < 1 at this; show t.val = 0; omega)

/-- The product's array after the run. -/
theorem final4 (c : Dev nD) : (dats m 0 c).arrAt 4 cfg0.N = k0_pay4 (V m c main_v10) (V m c main_v32) (V m c main_v31) (V m c main_v33) := by
  refine (dats m 0 c).arrAt_eq_of_covers 4 _ (by decide +kernel) fun t hf y => ?_
  obtain rfl := one_point t
  blk_simp
  rw [after0_4]
  have e4 : (win0_4.blk t₀).view.emb y = y := by blk_ext [show win0_4.index t₀ = ![0, 0] from by decide]
  rw [i0, i1, i2, i3, e4]
  unfold out0_4
  rw [View.canon_unit_zero (S := S1536x6912) hz, View.ld_unit_zero (S := S1536x2560) hz, View.ld_unit_zero (S := S1x1) hz,
    View.ld_unit_zero (S := S2560x6912) hz, View.ld_unit_zero (S := S1x6912) hz]

/-- The codes' array after the run. -/
theorem final5 (c : Dev nD) : (dats m 0 c).arrAt 5 cfg0.N = k0_pay3 (V m c main_v10) (V m c main_v32) := by
  refine (dats m 0 c).arrAt_eq_of_covers 5 _ (by decide +kernel) fun t hf y => ?_
  obtain rfl := one_point t
  blk_simp
  rw [after0_5]
  have e4 : (win0_5.blk t₀).view.emb y = y := by blk_ext [show win0_5.index t₀ = ![0, 0] from by decide]
  rw [i0, i1, e4]
  unfold out0_5
  rw [View.canon_unit_zero (S := S1536x2560) hz, View.ld_unit_zero (S := S1536x2560) hz, View.ld_unit_zero (S := S1x1) hz]

/-- The scales' array after the run. -/
theorem final6 (c : Dev nD) : (dats m 0 c).arrAt 6 cfg0.N = k0_pay2 (V m c main_v10) (V m c main_v32) := by
  refine (dats m 0 c).arrAt_eq_of_covers 6 _ (by decide +kernel) fun t hf y => ?_
  obtain rfl := one_point t
  blk_simp
  rw [after0_6]
  have e4 : (win0_6.blk t₀).view.emb y = y := by blk_ext [show win0_6.index t₀ = ![0, 0] from by decide]
  rw [i0, i1, e4]
  unfold out0_6
  rw [View.canon_unit_zero (S := S1536x1) hz, View.ld_unit_zero (S := S1536x2560) hz, View.ld_unit_zero (S := S1x1) hz]

/-- The last host operations' results. -/
theorem tail_y (c : Dev nD) : Pipeline.afterTail₀ cfgs (dats m) 0 (V0 m) [hostOps1] c main_v35
    = shapeCast S6x256x6912 (k0_pay4 (V m c main_v10) (V m c main_v32) (V m c main_v31) (V m c main_v33)) shapeCasts_S1536x6912_S6x256x6912 := by
  have h := (Pipeline.withArrays_arr (cfgs 0).spec launch0.win.arr_inj c (V0 m c) (fun w => (dats m 0 c).arrAt w (cfgs 0).N) 4).trans (final4 m c)
  show StableHlo.after hostOps1 (Pipeline.withArrays (cfgs 0).spec c (V0 m c) fun w => (dats m 0 c).arrAt w (cfgs 0).N) (Proc.devRef .tc main_v35) = _
  after_results_simp
  exact congrArg (fun u => shapeCast S6x256x6912 u shapeCasts_S1536x6912_S6x256x6912) h
theorem tail_codes (c : Dev nD) : Pipeline.afterTail₀ cfgs (dats m) 0 (V0 m) [hostOps1] c main_v36
    = shapeCast S6x256x2560 (k0_pay3 (V m c main_v10) (V m c main_v32)) shapeCasts_S1536x2560_S6x256x2560 := by
  have h := (Pipeline.withArrays_arr (cfgs 0).spec launch0.win.arr_inj c (V0 m c) (fun w => (dats m 0 c).arrAt w (cfgs 0).N) 5).trans (final5 m c)
  show StableHlo.after hostOps1 (Pipeline.withArrays (cfgs 0).spec c (V0 m c) fun w => (dats m 0 c).arrAt w (cfgs 0).N) (Proc.devRef .tc main_v36) = _
  after_results_simp
  exact congrArg (fun u => shapeCast S6x256x2560 u shapeCasts_S1536x2560_S6x256x2560) h
theorem tail_scales (c : Dev nD) : Pipeline.afterTail₀ cfgs (dats m) 0 (V0 m) [hostOps1] c main_v37
    = shapeCast S6x256 (k0_pay2 (V m c main_v10) (V m c main_v32)) shapeCasts_S1536x1_S6x256 := by
  have h := (Pipeline.withArrays_arr (cfgs 0).spec launch0.win.arr_inj c (V0 m c) (fun w => (dats m 0 c).arrAt w (cfgs 0).N) 6).trans (final6 m c)
  show StableHlo.after hostOps1 (Pipeline.withArrays (cfgs 0).spec c (V0 m c) fun w => (dats m 0 c).arrAt w (cfgs 0).N) (Proc.devRef .tc main_v37) = _
  after_results_simp
  exact congrArg (fun u => shapeCast S6x256 u shapeCasts_S1536x1_S6x256) h

end Cert.Proof.Ref

end
-- ==== Proof.RefResults.lean ====
/-
  Hand-written, untrusted. THE REFERENCE'S THREE RESULTS, entry by entry from the arguments, and its run.
-/
module

public import proofs.«01_k».proof.Proof.RefRun

@[expose] public section

set_option maxRecDepth 16384

noncomputable section

namespace Cert.Proof.Ref

open Cert.Proof.Plain Cert.Proof.Quant Idealize.ShloMosaic Idealize.SL.Sem Cert.ReferenceIdeal Cert.ReferenceIdeal.Gen Idealize.ShloMosaic.TcCoe
open Cert.Proof.Mat (nib cell packedCol)

variable (m : (ℓ : Loc nD τ sig) → Buf (Elt Ideal) ℓ) (ρ : Dev nD → PrngReg)

/-- The row of a batch's token. -/
def rrow (b : Fin 6) (s : Fin 256) : Fin 1536 := ⟨b.val * 256 + s.val, by omega⟩

/-- A token's scale, from the arguments. -/
abbrev rscale (c : Dev nD) (b : Fin 6) (s : Fin 256) : EReal :=
  pscale (fun k => m ((c : Thread nD τ).loc main_arg0) (ix3 b s k)) (fun k => m ((c : Thread nD τ).loc main_arg1) (ix1 k))
    (fun i j => m ((c : Thread nD τ).loc main_arg2) (ix2 i j)) (fun i j => m ((c : Thread nD τ).loc main_arg3) (ix2 i j))
    (m ((c : Thread nD τ).loc main_arg4) ix0)

/-- A token's codes, from the arguments. -/
abbrev rcode (c : Dev nD) (b : Fin 6) (s : Fin 256) (k : Fin 2560) : EReal :=
  pcode (fun k => m ((c : Thread nD τ).loc main_arg0) (ix3 b s k)) (fun k => m ((c : Thread nD τ).loc main_arg1) (ix1 k))
    (fun i j => m ((c : Thread nD τ).loc main_arg2) (ix2 i j)) (fun i j => m ((c : Thread nD τ).loc main_arg3) (ix2 i j))
    (m ((c : Thread nD τ).loc main_arg4) ix0) k

/-- The body's inputs, entry by entry from the arguments. -/
theorem z_row (c : Dev nD) (b : Fin 6) (s : Fin 256) (k : Fin 2560) : V m c main_v10 (ix2 (rrow b s) k)
    = zrow (fun k => m ((c : Thread nD τ).loc main_arg0) (ix3 b s k)) (fun k => m ((c : Thread nD τ).loc main_arg1) (ix1 k))
      (fun i j => m ((c : Thread nD τ).loc main_arg2) (ix2 i j)) (fun i j => m ((c : Thread nD τ).loc main_arg3) (ix2 i j)) k := by
  refine (congrFun (V_z m c) _).trans ((z_apply _ _ _ _ _ _).trans ?_)
  have e1 : (⟨(rrow b s).val / 256, by omega⟩ : Fin 6) = b := Fin.ext (by show (b.val * 256 + s.val) / 256 = b.val; omega)
  have e2 : (⟨(rrow b s).val % 256, by omega⟩ : Fin 256) = s := Fin.ext (by show (b.val * 256 + s.val) % 256 = s.val; omega)
  rw [e1, e2]
theorem clip_cast (u : FVec Ideal S_ .f32) : shapeCast S1x1 u shapeCasts_S_S1x1 (ix2 0 0) = u ix0 := by
  pointwise []
theorem clip_at (c : Dev nD) : V m c main_v32 (ix2 0 0) = m ((c : Thread nD τ).loc main_arg4) ix0 := (congrFun (V_clip m c) _).trans (clip_cast _)
theorem ws_cast (u : FVec Ideal S6912 .f32) (n : Fin 6912) : shapeCast S1x6912 u shapeCasts_S6912_S1x6912 (ix2 0 n) = u (ix1 n) := by
  pointwise []
theorem ws_at (c : Dev nD) (n : Fin 6912) : V m c main_v33 (ix2 0 n) = m ((c : Thread nD τ).loc main_arg6) (ix1 n) := (congrFun (V_ws m c) _).trans (ws_cast _ n)
theorem w_at (c : Dev nD) (k : Fin 2560) (n : Fin 6912) :
    (V m c main_v31 (ix2 k n) : BitVec 32).toInt = nib (m ((c : Thread nD τ).loc main_arg5) (ix2 k (packedCol n))) (n.val % 2) :=
  (congrArg BitVec.toInt (congrFun (V_w m c) (ix2 k n))).trans (wfull_apply _ k n)

/-- The body's scale and codes of a token. -/
theorem scale_row (c : Dev nD) (b : Fin 6) (s : Fin 256) :
    qscale (V m c main_v32 (ix2 0 0)) (qmax fun k => V m c main_v10 (ix2 (rrow b s) k)) = rscale m c b s := by
  rw [clip_at, funext (z_row m c b s)]
  rfl

/-- The results' reshapes at an index. -/
theorem cast_y (u : FVec Ideal S1536x6912 .bf16) (b : Fin 6) (s : Fin 256) (n : Fin 6912) :
    shapeCast S6x256x6912 u shapeCasts_S1536x6912_S6x256x6912 (ix3 b s n) = u (ix2 (rrow b s) n) := by
  pointwise []
  rfl
theorem cast_codes (u : IVec S1536x2560 8) (b : Fin 6) (s : Fin 256) (k : Fin 2560) :
    shapeCast S6x256x2560 u shapeCasts_S1536x2560_S6x256x2560 (ix3 b s k) = u (ix2 (rrow b s) k) := by
  pointwise []
  rfl
theorem cast_scales (u : FVec Ideal S1536x1 .f32) (b : Fin 6) (s : Fin 256) :
    shapeCast S6x256 u shapeCasts_S1536x1_S6x256 (ix2 b s) = u (ix2 (rrow b s) 0) := by
  pointwise []
  rfl

/-- The scales, entry by entry. -/
theorem scales_at (c : Dev nD) (b : Fin 6) (s : Fin 256) :
    shapeCast S6x256 (k0_pay2 (F := Ideal) (V m c main_v10) (V m c main_v32)) shapeCasts_S1536x1_S6x256 (ix2 b s) = rscale m c b s :=
  (cast_scales _ b s).trans ((pay2_apply _ _ _).trans (scale_row m c b s))
/-- The codes, entry by entry. -/
theorem codes_at (c : Dev nD) (b : Fin 6) (s : Fin 256) (k : Fin 2560) :
    shapeCast S6x256x2560 (k0_pay3 (F := Ideal) (V m c main_v10) (V m c main_v32)) shapeCasts_S1536x2560_S6x256x2560 (ix3 b s k)
      = Ideal.fptosi 8 (rcode m c b s k) := by
  refine (cast_codes _ b s k).trans ((pay3_apply _ _ _ _).trans ?_)
  rw [scale_row, z_row]
  rfl
/-- The product, entry by entry. -/
theorem y_at (c : Dev nD) (b : Fin 6) (s : Fin 256) (n : Fin 6912) :
    shapeCast S6x256x6912 (k0_pay4 (F := Ideal) (V m c main_v10) (V m c main_v32) (V m c main_v31) (V m c main_v33)) shapeCasts_S1536x6912_S6x256x6912 (ix3 b s n)
      = cell (rcode m c b s) (fun k => nib (m ((c : Thread nD τ).loc main_arg5) (ix2 k (packedCol n))) (n.val % 2))
          (rscale m c b s) (m ((c : Thread nD τ).loc main_arg6) (ix1 n)) := by
  refine (cast_y _ b s n).trans ((pay4_apply _ _ _ _ _ _).trans ?_)
  have hc : (fun k => qcode (V m c main_v10 (ix2 (rrow b s) k)) (rscale m c b s)) = rcode m c b s := funext fun k => by
    rw [z_row]
    rfl
  rw [scale_row, hc, funext fun k => w_at m c k n, ws_at]

/-- What the reference's run leaves in its three results; its arguments end unchanged. -/
theorem run_results : θ_run defs (onTc (τ := τ) (main (F := Ideal))) ⟨m, fun _ => 0, ρ⟩ (fun r => ∀ c : Dev nD,
      r.2.mem ((c.tc : Thread nD τ).loc main_v35)
        = shapeCast S6x256x6912 (k0_pay4 (F := Ideal) (V m c main_v10) (V m c main_v32) (V m c main_v31) (V m c main_v33)) shapeCasts_S1536x6912_S6x256x6912
      ∧ r.2.mem ((c.tc : Thread nD τ).loc main_v36) = shapeCast S6x256x2560 (k0_pay3 (F := Ideal) (V m c main_v10) (V m c main_v32)) shapeCasts_S1536x2560_S6x256x2560
      ∧ r.2.mem ((c.tc : Thread nD τ).loc main_v37) = shapeCast S6x256 (k0_pay2 (F := Ideal) (V m c main_v10) (V m c main_v32)) shapeCasts_S1536x1_S6x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v35 (Pipeline.mem_restRefs_of main_v35 (by decide) (by decide))).trans (tail_y m c),
     ((h c).2 main_v36 (Pipeline.mem_restRefs_of main_v36 (by decide) (by decide))).trans (tail_codes m c),
     ((h c).2 main_v37 (Pipeline.mem_restRefs_of main_v37 (by decide) (by decide))).trans (tail_scales m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩)
    (run_main m ρ)

end Cert.Proof.Ref

end
-- ==== Proof.lean ====
/-
  Hand-written, untrusted. THE PROOF of `Cert.Claim`: the kernel and the reference run to the end with their arguments
  unchanged and all semaphore counters at zero, and over the reals the three results of the kernel are those of the
  reference. Both sides are brought to the same plain form (`Proof/Plain.lean`, `Proof/Quant.lean`): the kernel's by
  `Proof/KernelRun.lean`, the reference's by `Proof/RefResults.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.RefResults
public import Idealize.ShloMosaic.Adequacy
public import Idealize.ShloMosaic.Init

@[expose] public section

noncomputable section

namespace Cert.Proof

open Idealize.ShloMosaic Idealize.SL.Sem

/-- Over the reals the kernel's three results are the reference's. -/
theorem values : Cert.algebraic_KernelIdeal_ReferenceIdeal (hKernelIdeal := Cert.KernelIdeal.Gen.facts) (hReferenceIdeal := Cert.ReferenceIdeal.Gen.facts) := by
  intro m g m' g' _ hag
  refine ⟨fun c => Cert.KernelIdeal.Gen.W5 m g c (Proc.devRef .tc Cert.KernelIdeal.main_v33),
    fun c => Cert.KernelIdeal.Gen.W5 m g c (Proc.devRef .tc Cert.KernelIdeal.main_v34),
    fun c => Cert.KernelIdeal.Gen.W5 m g c (Proc.devRef .tc Cert.KernelIdeal.main_v35), Cert.KernelIdeal.Gen.run_results m g, ?_⟩
  refine (θ_run Cert.ReferenceIdeal.defs _ _).mono (fun r h c => ?_) (Ref.run_results m' g')
  obtain ⟨hy, hq, hs, hargs⟩ := h c
  obtain ⟨h0, h1, h2, h3, h4, h5, h6⟩ := hag c
  refine ⟨hy.trans ?_, hq.trans ?_, hs.trans ?_, hargs⟩
  · funext y
    obtain ⟨b, s, n, rfl⟩ : ∃ (b : Fin 6) (s : Fin 256) (n : Fin 6912), y = ix3 b s n :=
      ⟨y 0, y 1, y 2, by funext c; match c with | ⟨0, _⟩ => rfl | ⟨1, _⟩ => rfl | ⟨2, _⟩ => rfl⟩
    refine (Ref.y_at m' c b s n).trans (Eq.trans ?_ (Host.y_apply m g c b s n).symm)
    unfold Ref.rcode Ref.rscale
    rw [h0, h1, h2, h3, h4, h5, h6]
  · funext y
    obtain ⟨b, s, k, rfl⟩ : ∃ (b : Fin 6) (s : Fin 256) (k : Fin 2560), y = ix3 b s k :=
      ⟨y 0, y 1, y 2, by funext c; match c with | ⟨0, _⟩ => rfl | ⟨1, _⟩ => rfl | ⟨2, _⟩ => rfl⟩
    refine (Ref.codes_at m' c b s k).trans (Eq.trans ?_ (Host.codes_apply m g c b s k).symm)
    unfold Ref.rcode
    rw [h0, h1, h2, h3, h4]
  · funext y
    obtain ⟨b, s, rfl⟩ : ∃ (b : Fin 6) (s : Fin 256), y = ix2 b s := ⟨y 0, y 1, by funext c; match c with | ⟨0, _⟩ => rfl | ⟨1, _⟩ => rfl⟩
    refine (Ref.scales_at m' c b s).trans (Eq.trans ?_ (Host.scales_apply m g c b s).symm)
    unfold Ref.rscale
    rw [h0, h1, h2, h3, h4]

/-- The kernel and the reference run to the end with their arguments unchanged, and over the reals their three results agree. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, values⟩

end Cert.Proof

end
